-- ==== Defs.lean ====
def Pre_Kernel [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_scale" .f32 0x3DD53B95#32 (((Real.sqrt 192)⁻¹ * (Real.log 2)⁻¹ : ℝ) : EReal)

def algebraic_KernelIdeal_ReferenceIdeal [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel) (hPre_admissible := hPre_admissible)
    ∧ quiescent_KernelIdeal (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal (hKernelIdeal := hKernelIdeal) (hReferenceIdeal := hReferenceIdeal) (hPre_admissible := hPre_admissible)
-- ==== Pre_admissible.lean ====
abbrev S8x4x65536 : Shape := ⟨3, ![8, 4, 65536]⟩
abbrev S8x4x128x64 : Shape := ⟨4, ![8, 4, 128, 64]⟩
abbrev S8x16384x512 : Shape := ⟨3, ![8, 16384, 512]⟩
abbrev S8x16384x4 : Shape := ⟨3, ![8, 16384, 4]⟩
abbrev S8x16384x64 : Shape := ⟨3, ![8, 16384, 64]⟩
abbrev S8 : Shape := ⟨1, ![8]⟩
abbrev S8x4x512 : Shape := ⟨3, ![8, 4, 512]⟩
abbrev S8x4x4 : Shape := ⟨3, ![8, 4, 4]⟩
abbrev S8x4x64 : Shape := ⟨3, ![8, 4, 64]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x4x65536 .bf16) (main_arg1 : FVec F S8x4x128x64 .bf16) (main_arg2 : FVec F S8x16384x512 .fp8e4m3) (main_arg3 : FVec F S8x16384x4 .f32) (main_arg4 : FVec F S8x16384x64 .bf16) (main_arg5 : IVec S8 32) (main_arg6 : FVec F S8x4x512 .fp8e4m3) (main_arg7 : FVec F S8x4x4 .f32) (main_arg8 : FVec F S8x4x64 .bf16) : IVec S8 1 :=
  let main_c : IVec S_ 32 := constantI S_ 32 1#32
  let main_v0 : IVec S8 32 := broadcastInDim S8 ![] bcast_S_S8 main_c
  let main_v1 : IVec S8 1 := cmpi .sge main_arg5 main_v0
  let main_c_0 : IVec S_ 32 := constantI S_ 32 2147482624#32
  let main_v2 : IVec S8 32 := broadcastInDim S8 ![] bcast_S_S8 main_c_0
  let main_v3 : IVec S8 1 := cmpi .sle main_arg5 main_v2
  let main_v4 : IVec S8 1 := andi main_v1 main_v3
  main_v4
-- ==== Kernel.lean ====
abbrev S8x4x65536 : Shape := ⟨3, ![8, 4, 65536]⟩
abbrev S8x4x128x64 : Shape := ⟨4, ![8, 4, 128, 64]⟩
abbrev S8x16384x512 : Shape := ⟨3, ![8, 16384, 512]⟩
abbrev S8x16384x4 : Shape := ⟨3, ![8, 16384, 4]⟩
abbrev S8x16384x64 : Shape := ⟨3, ![8, 16384, 64]⟩
abbrev S8 : Shape := ⟨1, ![8]⟩
abbrev S8x4x512 : Shape := ⟨3, ![8, 4, 512]⟩
abbrev S8x4x4 : Shape := ⟨3, ![8, 4, 4]⟩
abbrev S8x4x64 : Shape := ⟨3, ![8, 4, 64]⟩
abbrev S8x512x512 : Shape := ⟨3, ![8, 512, 512]⟩
abbrev S8x512x64 : Shape := ⟨3, ![8, 512, 64]⟩
abbrev S_ : Shape := ⟨0, ![]⟩
abbrev S8x128x64 : Shape := ⟨3, ![8, 128, 64]⟩
abbrev S8x4x16384 : Shape := ⟨3, ![8, 4, 16384]⟩
abbrev S8x64x16384 : Shape := ⟨3, ![8, 64, 16384]⟩
abbrev S1x512x512 : Shape := ⟨3, ![1, 512, 512]⟩
abbrev S1x512x64 : Shape := ⟨3, ![1, 512, 64]⟩
abbrev S1x1024x512 : Shape := ⟨3, ![1, 1024, 512]⟩
abbrev S1 : Shape := ⟨1, ![1]⟩
abbrev S1x4x1024 : Shape := ⟨3, ![1, 4, 1024]⟩
abbrev S1x64x1024 : Shape := ⟨3, ![1, 64, 1024]⟩
abbrev S1x4x512 : Shape := ⟨3, ![1, 4, 512]⟩
abbrev S1x4x4 : Shape := ⟨3, ![1, 4, 4]⟩
abbrev S1x128x64 : Shape := ⟨3, ![1, 128, 64]⟩
abbrev S512x512 : Shape := ⟨2, ![512, 512]⟩
abbrev S512x128 : Shape := ⟨2, ![512, 128]⟩
abbrev S1024x512 : Shape := ⟨2, ![1024, 512]⟩
abbrev S1x4x128 : Shape := ⟨3, ![1, 4, 128]⟩
abbrev S4x128 : Shape := ⟨2, ![4, 128]⟩
abbrev S1x4x1 : Shape := ⟨3, ![1, 4, 1]⟩
abbrev S4x1 : Shape := ⟨2, ![4, 1]⟩
abbrev S4x512 : Shape := ⟨2, ![4, 512]⟩
abbrev S124x512 : Shape := ⟨2, ![124, 512]⟩
abbrev S128x512 : Shape := ⟨2, ![128, 512]⟩
abbrev S512x64 : Shape := ⟨2, ![512, 64]⟩
abbrev S128x64 : Shape := ⟨2, ![128, 64]⟩
abbrev S512 : Shape := ⟨1, ![512]⟩
abbrev S512x1 : Shape := ⟨2, ![512, 1]⟩
abbrev S4x1024 : Shape := ⟨2, ![4, 1024]⟩
abbrev S1024x4 : Shape := ⟨2, ![1024, 4]⟩
abbrev S1x1024x128 : Shape := ⟨3, ![1, 1024, 128]⟩
abbrev S1024x128 : Shape := ⟨2, ![1024, 128]⟩
abbrev S1024x1 : Shape := ⟨2, ![1024, 1]⟩
abbrev S512x1024 : Shape := ⟨2, ![512, 1024]⟩
abbrev S64x1024 : Shape := ⟨2, ![64, 1024]⟩

abbrev nBuf : Space → Nat
  | .hbm => 16
  | .vmem => 22
  | .smem => 1
  | _ => 0

abbrev bufTy : (tb : Table) → Fin (tcTables nBuf tb) → BufTy
  | .hbm, ⟨0, _⟩ => ⟨S8x4x65536, .bf16⟩
  | .hbm, ⟨1, _⟩ => ⟨S8x4x128x64, .bf16⟩
  | .hbm, ⟨2, _⟩ => ⟨S8x16384x512, .fp8e4m3⟩
  | .hbm, ⟨3, _⟩ => ⟨S8x16384x4, .f32⟩
  | .hbm, ⟨4, _⟩ => ⟨S8x16384x64, .bf16⟩
  | .hbm, ⟨5, _⟩ => ⟨S8x4x512, .fp8e4m3⟩
  | .hbm, ⟨6, _⟩ => ⟨S8x4x4, .f32⟩
  | .hbm, ⟨7, _⟩ => ⟨S8x4x64, .bf16⟩
  | .hbm, ⟨8, _⟩ => ⟨S8x512x512, .bf16⟩
  | .hbm, ⟨9, _⟩ => ⟨S8x512x64, .bf16⟩
  | .hbm, ⟨10, _⟩ => ⟨S_, .i32⟩
  | .hbm, ⟨11, _⟩ => ⟨S_, .bf16⟩
  | .hbm, ⟨12, _⟩ => ⟨S8x128x64, .bf16⟩
  | .hbm, ⟨13, _⟩ => ⟨S8x4x16384, .f32⟩
  | .hbm, ⟨14, _⟩ => ⟨S8x64x16384, .bf16⟩
  | .hbm, ⟨15, _⟩ => ⟨S8x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x64, .bf16⟩
  | .local _ .vmem, ⟨3, _⟩ => ⟨S1x512x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x4x1024, .f32⟩
  | .local _ .vmem, ⟨7, _⟩ => ⟨S1x4x1024, .f32⟩
  | .local _ .vmem, ⟨8, _⟩ => ⟨S1x64x1024, .bf16⟩
  | .local _ .vmem, ⟨9, _⟩ => ⟨S1x64x1024, .bf16⟩
  | .local _ .vmem, ⟨10, _⟩ => ⟨S1x4x512, .fp8e4m3⟩
  | .local _ .vmem, ⟨11, _⟩ => ⟨S1x4x512, .fp8e4m3⟩
  | .local _ .vmem, ⟨12, _⟩ => ⟨S1x4x4, .f32⟩
  | .local _ .vmem, ⟨13, _⟩ => ⟨S1x4x4, .f32⟩
  | .local _ .vmem, ⟨14, _⟩ => ⟨S1x128x64, .bf16⟩
  | .local _ .vmem, ⟨15, _⟩ => ⟨S1x128x64, .bf16⟩
  | .local _ .vmem, ⟨16, _⟩ => ⟨S1x512x512, .bf16⟩
  | .local _ .vmem, ⟨17, _⟩ => ⟨S1x512x512, .bf16⟩
  | .local _ .vmem, ⟨18, _⟩ => ⟨S512x512, .f32⟩
  | .local _ .vmem, ⟨19, _⟩ => ⟨S512x128, .f32⟩
  | .local _ .vmem, ⟨20, _⟩ => ⟨S512x128, .f32⟩
  | .local _ .vmem, ⟨21, _⟩ => ⟨S1024x512, .bf16⟩
  | .local _ .smem, ⟨0, _⟩ => ⟨S8, .i32⟩
  | _, _ => ⟨S8x4x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_2 : BitVec 32 := 0#32
  let v12 : BitVec 1 := Scalar.cmpi .ne v11 c0_i32_2
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let v5 : BitVec 32 := Scalar.minsi arg1 v4
  let c0_i32 : BitVec 32 := 0#32
  let c0_i32_0 : BitVec 32 := 0#32
  ![arg0.toNat, v5.toNat, c0_i32.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let v5 : BitVec 32 := Scalar.minsi arg1 v4
  let c0_i32 : BitVec 32 := 0#32
  let c0_i32_0 : BitVec 32 := 0#32
  ![arg0.toNat, c0_i32.toNat, v5.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let v5 : BitVec 32 := Scalar.minsi arg1 v4
  let c0_i32 : BitVec 32 := 0#32
  let c0_i32_0 : BitVec 32 := 0#32
  ![arg0.toNat, c0_i32.toNat, v5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "exp2_scale" => some (((Real.sqrt 192)⁻¹ * (Real.log 2)⁻¹ : ℝ) : EReal)
  | "mask" => some ⊥
  | _ => none
-- ==== ReferenceIdeal.lean ====
abbrev S8x4x65536 : Shape := ⟨3, ![8, 4, 65536]⟩
abbrev S8x4x128x64 : Shape := ⟨4, ![8, 4, 128, 64]⟩
abbrev S8x16384x512 : Shape := ⟨3, ![8, 16384, 512]⟩
abbrev S8x16384x4 : Shape := ⟨3, ![8, 16384, 4]⟩
abbrev S8x16384x64 : Shape := ⟨3, ![8, 16384, 64]⟩
abbrev S8 : Shape := ⟨1, ![8]⟩
abbrev S8x4x512 : Shape := ⟨3, ![8, 4, 512]⟩
abbrev S8x4x4 : Shape := ⟨3, ![8, 4, 4]⟩
abbrev S8x4x64 : Shape := ⟨3, ![8, 4, 64]⟩
abbrev S8x4x128x512 : Shape := ⟨4, ![8, 4, 128, 512]⟩
abbrev S8x4x128x576 : Shape := ⟨4, ![8, 4, 128, 576]⟩
abbrev S8x16384x4x128 : Shape := ⟨4, ![8, 16384, 4, 128]⟩
abbrev S8x16384x4x1 : Shape := ⟨4, ![8, 16384, 4, 1]⟩
abbrev S8x4x4x128 : Shape := ⟨4, ![8, 4, 4, 128]⟩
abbrev S8x4x4x1 : Shape := ⟨4, ![8, 4, 4, 1]⟩
abbrev S8x16384x576 : Shape := ⟨3, ![8, 16384, 576]⟩
abbrev S8x4x576 : Shape := ⟨3, ![8, 4, 576]⟩
abbrev S_ : Shape := ⟨0, ![]⟩
abbrev S8x4x128x16384 : Shape := ⟨4, ![8, 4, 128, 16384]⟩
abbrev S8x4x128x4 : Shape := ⟨4, ![8, 4, 128, 4]⟩
abbrev S16384 : Shape := ⟨1, ![16384]⟩
abbrev S1x16384 : Shape := ⟨2, ![1, 16384]⟩
abbrev S8x1 : Shape := ⟨2, ![8, 1]⟩
abbrev S8x16384 : Shape := ⟨2, ![8, 16384]⟩
abbrev S8x1x1x16384 : Shape := ⟨4, ![8, 1, 1, 16384]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x1x4 : Shape := ⟨4, ![1, 4, 1, 4]⟩
abbrev S8x4x128 : Shape := ⟨3, ![8, 4, 128]⟩
abbrev S8x4x128x1 : Shape := ⟨4, ![8, 4, 128, 1]⟩
abbrev S8x512x512 : Shape := ⟨3, ![8, 512, 512]⟩

abbrev nBuf : Space → Nat
  | .hbm => 89
  | .vmem => 4
  | .smem => 0
  | _ => 0

abbrev bufTy : (tb : Table) → Fin (tcTables nBuf tb) → BufTy
  | .hbm, ⟨0, _⟩ => ⟨S8x4x65536, .bf16⟩
  | .hbm, ⟨1, _⟩ => ⟨S8x4x128x64, .bf16⟩
  | .hbm, ⟨2, _⟩ => ⟨S8x16384x512, .fp8e4m3⟩
  | .hbm, ⟨3, _⟩ => ⟨S8x16384x4, .f32⟩
  | .hbm, ⟨4, _⟩ => ⟨S8x16384x64, .bf16⟩
  | .hbm, ⟨5, _⟩ => ⟨S8, .i32⟩
  | .hbm, ⟨6, _⟩ => ⟨S8x4x512, .fp8e4m3⟩
  | .hbm, ⟨7, _⟩ => ⟨S8x4x4, .f32⟩
  | .hbm, ⟨8, _⟩ => ⟨S8x4x64, .bf16⟩
  | .hbm, ⟨9, _⟩ => ⟨S8x16384x512, .bf16⟩
  | .hbm, ⟨10, _⟩ => ⟨S8x4x512, .bf16⟩
  | .hbm, ⟨11, _⟩ => ⟨S8x4x128x512, .bf16⟩
  | .hbm, ⟨12, _⟩ => ⟨S8x4x128x576, .bf16⟩
  | .hbm, ⟨13, _⟩ => ⟨S8x16384x4x128, .bf16⟩
  | .hbm, ⟨14, _⟩ => ⟨S8x16384x4, .bf16⟩
  | .hbm, ⟨15, _⟩ => ⟨S8x16384x4x1, .bf16⟩
  | .hbm, ⟨16, _⟩ => ⟨S8x16384x4x128, .bf16⟩
  | .hbm, ⟨17, _⟩ => ⟨S8x16384x4x128, .bf16⟩
  | .hbm, ⟨18, _⟩ => ⟨S8x16384x512, .bf16⟩
  | .hbm, ⟨19, _⟩ => ⟨S8x4x4x128, .bf16⟩
  | .hbm, ⟨20, _⟩ => ⟨S8x4x4, .bf16⟩
  | .hbm, ⟨21, _⟩ => ⟨S8x4x4x1, .bf16⟩
  | .hbm, ⟨22, _⟩ => ⟨S8x4x4x128, .bf16⟩
  | .hbm, ⟨23, _⟩ => ⟨S8x4x4x128, .bf16⟩
  | .hbm, ⟨24, _⟩ => ⟨S8x4x512, .bf16⟩
  | .hbm, ⟨25, _⟩ => ⟨S8x16384x576, .bf16⟩
  | .hbm, ⟨26, _⟩ => ⟨S8x4x576, .bf16⟩
  | .hbm, ⟨27, _⟩ => ⟨S_, .f32⟩
  | .hbm, ⟨28, _⟩ => ⟨S_, .f32⟩
  | .hbm, ⟨29, _⟩ => ⟨S8x4x128x16384, .f32⟩
  | .hbm, ⟨30, _⟩ => ⟨S8x4x128x16384, .f32⟩
  | .hbm, ⟨31, _⟩ => ⟨S8x4x128x16384, .f32⟩
  | .hbm, ⟨32, _⟩ => ⟨S8x4x128x4, .f32⟩
  | .hbm, ⟨33, _⟩ => ⟨S8x4x128x4, .f32⟩
  | .hbm, ⟨34, _⟩ => ⟨S8x4x128x4, .f32⟩
  | .hbm, ⟨35, _⟩ => ⟨S16384, .i32⟩
  | .hbm, ⟨36, _⟩ => ⟨S1x16384, .i32⟩
  | .hbm, ⟨37, _⟩ => ⟨S8x1, .i32⟩
  | .hbm, ⟨38, _⟩ => ⟨S8x16384, .i32⟩
  | .hbm, ⟨39, _⟩ => ⟨S8x16384, .i32⟩
  | .hbm, ⟨40, _⟩ => ⟨S8x16384, .i1⟩
  | .hbm, ⟨41, _⟩ => ⟨S8x1x1x16384, .i1⟩
  | .hbm, ⟨42, _⟩ => ⟨S_, .f32⟩
  | .hbm, ⟨43, _⟩ => ⟨S_, .f32⟩
  | .hbm, ⟨44, _⟩ => ⟨S8x4x128x16384, .i1⟩
  | .hbm, ⟨45, _⟩ => ⟨S8x4x128x16384, .f32⟩
  | .hbm, ⟨46, _⟩ => ⟨S8x4x128x16384, .f32⟩
  | .hbm, ⟨47, _⟩ => ⟨S4, .i32⟩
  | .hbm, ⟨48, _⟩ => ⟨S1x4, .i32⟩
  | .hbm, ⟨49, _⟩ => ⟨S4, .i32⟩
  | .hbm, ⟨50, _⟩ => ⟨S4x1, .i32⟩
  | .hbm, ⟨51, _⟩ => ⟨S4x4, .i32⟩
  | .hbm, ⟨52, _⟩ => ⟨S4x4, .i32⟩
  | .hbm, ⟨53, _⟩ => ⟨S4x4, .i1⟩
  | .hbm, ⟨54, _⟩ => ⟨S1x4x1x4, .i1⟩
  | .hbm, ⟨55, _⟩ => ⟨S_, .f32⟩
  | .hbm, ⟨56, _⟩ => ⟨S_, .f32⟩
  | .hbm, ⟨57, _⟩ => ⟨S8x4x128x4, .i1⟩
  | .hbm, ⟨58, _⟩ => ⟨S8x4x128x4, .f32⟩
  | .hbm, ⟨59, _⟩ => ⟨S8x4x128x4, .f32⟩
  | .hbm, ⟨60, _⟩ => ⟨S_, .f32⟩
  | .hbm, ⟨61, _⟩ => ⟨S8x4x128, .f32⟩
  | .hbm, ⟨62, _⟩ => ⟨S8x4x128x1, .f32⟩
  | .hbm, ⟨63, _⟩ => ⟨S_, .f32⟩
  | .hbm, ⟨64, _⟩ => ⟨S8x4x128, .f32⟩
  | .hbm, ⟨65, _⟩ => ⟨S8x4x128x1, .f32⟩
  | .hbm, ⟨66, _⟩ => ⟨S8x4x128x1, .f32⟩
  | .hbm, ⟨67, _⟩ => ⟨S8x4x128x16384, .f32⟩
  | .hbm, ⟨68, _⟩ => ⟨S8x4x128x16384, .f32⟩
  | .hbm, ⟨69, _⟩ => ⟨S8x4x128x16384, .f32⟩
  | .hbm, ⟨70, _⟩ => ⟨S8x4x128x4, .f32⟩
  | .hbm, ⟨71, _⟩ => ⟨S8x4x128x4, .f32⟩
  | .hbm, ⟨72, _⟩ => ⟨S8x4x128x4, .f32⟩
  | .hbm, ⟨73, _⟩ => ⟨S_, .f32⟩
  | .hbm, ⟨74, _⟩ => ⟨S8x4x128, .f32⟩
  | .hbm, ⟨75, _⟩ => ⟨S8x4x128x1, .f32⟩
  | .hbm, ⟨76, _⟩ => ⟨S_, .f32⟩
  | .hbm, ⟨77, _⟩ => ⟨S8x4x128, .f32⟩
  | .hbm, ⟨78, _⟩ => ⟨S8x4x128x1, .f32⟩
  | .hbm, ⟨79, _⟩ => ⟨S8x4x128x1, .f32⟩
  | .hbm, ⟨80, _⟩ => ⟨S8x4x128x16384, .bf16⟩
  | .hbm, ⟨81, _⟩ => ⟨S8x4x128x512, .f32⟩
  | .hbm, ⟨82, _⟩ => ⟨S8x4x128x4, .bf16⟩
  | .hbm, ⟨83, _⟩ => ⟨S8x4x128x512, .f32⟩
  | .hbm, ⟨84, _⟩ => ⟨S8x4x128x512, .f32⟩
  | .hbm, ⟨85, _⟩ => ⟨S8x4x128x512, .f32⟩
  | .hbm, ⟨86, _⟩ => ⟨S8x4x128x512, .f32⟩
  | .hbm, ⟨87, _⟩ => ⟨S8x4x128x512, .bf16⟩
  | .hbm, ⟨88, _⟩ => ⟨S8x512x512, .bf16⟩
  | .local _ .vmem, ⟨0, _⟩ => ⟨S8x16384x512, .fp8e4m3⟩
  | .local _ .vmem, ⟨1, _⟩ => ⟨S8x4x512, .fp8e4m3⟩
  | .local _ .vmem, ⟨2, _⟩ => ⟨S8x16384x512, .bf16⟩
  | .local _ .vmem, ⟨3, _⟩ => ⟨S8x4x512, .bf16⟩
  | _, _ => ⟨S8x4x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v40 : Ref sig .tc := ⟨.hbm, 59, rfl⟩
abbrev main_cst_2 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_cst_5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x16384x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Length.lean ====
/-
  The word arithmetic of a cache length. The kernel divides a length into chunks of 1024 tokens, rounding up, clamps the chunk a grid point reads
  to the last live one, and takes a chunk's work only when the chunk is live; under the precondition a length is between 1 and `2 ^ 31 - 1024`, so none
  of that overflows and each is the arithmetic of the naturals.
-/
module

public import proofs.«01_k».proof.Pre_admissible
public import proofs.«01_k».proof.Proof.Gen.Pre_admissible
public import Idealize.ShloMosaic.Lib.Routing.Words
public import Idealize.ShloMosaic.Lib.PlanTiles.Rows
public import Idealize.ShloMosaic.Lib.WordCmp

@[expose] public section

noncomputable section

namespace Cert.Length

open Idealize.ShloMosaic

/-- A length the precondition admits: at least one token, and small enough for the rounding to a whole chunk not to overflow. -/
def Admissible (v : BitVec 32) : Prop := 1 ≤ v.toNat ∧ v.toNat ≤ 2147482624

/-- The precondition says of every entry of `lengths` that it is admissible. -/
theorem admissible_of_pre {F : FTy → Type} [FloatOps F] (a0 : FVec F Cert.Pre_admissible.S8x4x65536 .bf16) (a1 : FVec F Cert.Pre_admissible.S8x4x128x64 .bf16)
    (a2 : FVec F Cert.Pre_admissible.S8x16384x512 .fp8e4m3) (a3 : FVec F Cert.Pre_admissible.S8x16384x4 .f32) (a4 : FVec F Cert.Pre_admissible.S8x16384x64 .bf16)
    (a5 : IVec Cert.Pre_admissible.S8 32) (a6 : FVec F Cert.Pre_admissible.S8x4x512 .fp8e4m3) (a7 : FVec F Cert.Pre_admissible.S8x4x4 .f32)
    (a8 : FVec F Cert.Pre_admissible.S8x4x64 .bf16) (h : Cert.Pre_admissible.fn (F := F) a0 a1 a2 a3 a4 a5 a6 a7 a8 = fun _ => 1#1)
    (j : Cert.Pre_admissible.S8.Idx) : Admissible (a5 j) := by
  have e := congrFun h j
  simp only [Cert.Pre_admissible.fn, andi, cmpi, broadcastInDim, constantI] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, decide_eq_true_eq] at e
  unfold Admissible
  have h1 := e.1
  have h2 := e.2
  generalize a5 j = v at h1 h2
  rw [show (1#32 : BitVec 32).toInt = 1 from rfl] at h1
  rw [show (2147482624#32 : BitVec 32).toInt = 2147482624 from rfl] at h2
  rw [BitVec.toInt_eq_toNat_cond] at h1 h2
  have := v.isLt
  split at h1 <;> split at h2 <;> omega

/-- The number of live chunks of a length. -/
def chunks (v : BitVec 32) : ℕ := (v.toNat + 1023) / 1024

/-- An admissible length has a live chunk. -/
theorem chunks_pos {v : BitVec 32} (h : Admissible v) : 1 ≤ chunks v := by
  unfold chunks; unfold Admissible at h; omega

/-- The rounded-up quotient of an admissible length is its number of live chunks. -/
theorem divsi_length {v : BitVec 32} (h : Admissible v) : Scalar.divsi (Scalar.addi v 1023#32) 1024#32 = BitVec.ofNat 32 (chunks v) := by
  unfold Admissible at h
  have e : Scalar.addi v 1023#32 = BitVec.ofNat 32 (v.toNat + 1023) := by
    apply BitVec.eq_of_toNat_eq
    simp only [Scalar.addi, IntOp.addi, BitVec.toNat_add, BitVec.toNat_ofNat]
  rw [e]
  exact Routing.divsi_word .scalar (a := v.toNat + 1023) (b := 1024) (by omega) (by omega) (by omega)

/-- The chunk a grid point reads, its own or else the last live one. -/
theorem chunk_word {v : BitVec 32} (h : Admissible v) {j : ℕ} (hj : j < 16) :
    (Scalar.minsi (BitVec.ofNat 32 j) (Scalar.subi (Scalar.divsi (Scalar.addi v 1023#32) 1024#32) 1#32)).toNat = min (chunks v - 1) j := by
  rw [divsi_length h]
  have hp := chunks_pos h
  have hb : chunks v < 2 ^ 31 := by unfold chunks; unfold Admissible at h; omega
  have e : Scalar.subi (BitVec.ofNat 32 (chunks v)) 1#32 = BitVec.ofNat 32 (chunks v - 1) := by
    apply BitVec.eq_of_toNat_eq
    simp only [Scalar.subi, IntOp.subi, BitVec.toNat_sub, BitVec.toNat_ofNat]
    omega
  rw [e]
  show (IntOp.minsi _ _).toNat = _
  rw [PlanTiles.minsi_word (by omega) (by omega), BitVec.toNat_ofNat]
  omega

/-- A grid point takes its chunk exactly when the chunk is live. -/
theorem live_word {v : BitVec 32} (h : Admissible v) {j : ℕ} (hj : j < 16) :
    Scalar.cmpi .ne (Scalar.extui (Scalar.cmpi .slt (BitVec.ofNat 32 j) (Scalar.divsi (Scalar.addi v 1023#32) 1024#32))) 0#32 = 1#1 ↔ 1024 * j < v.toNat := by
  rw [divsi_length h]
  have hb : chunks v < 2 ^ 31 := by unfold chunks; unfold Admissible at h; omega
  have e : Scalar.cmpi .slt (BitVec.ofNat 32 j) (BitVec.ofNat 32 (chunks v)) = BitVec.ofBool (decide (j < chunks v)) :=
    WordCmp.cmpi_slt_ofNat (w := 32) (by omega) (by omega)
  rw [e]
  have hi : j < chunks v ↔ 1024 * j < v.toNat := by unfold chunks; omega
  rw [← hi]
  by_cases hc : j < chunks v
  · simp only [hc, decide_true, iff_true]; decide
  · simp only [hc, decide_false, iff_false]; decide

end Cert.Length

end
-- ==== Proof.KernelOk.lean ====
/-
  The precondition keeps every block the kernel reads inside its array: the chunk a grid point reads is one of the sixteen.
-/
module

public import proofs.«01_k».proof.Proof.Gen.Kernel.Frame
public import proofs.«01_k».proof.Proof.Length

@[expose] public section

noncomputable section

namespace Cert.Kernel

open Idealize.ShloMosaic Idealize.ShloMosaic.TcCoe Idealize.SL.Sem Cert.Kernel.Gen Cert.Length

variable {F : FTy → Type} [FloatOps F]

/-- The table's entry at a grid point: the length of its batch. -/
def lenAt (pf : pre0.Contents (Elt F)) (i : grid0.Coords) : BitVec 32 :=
  pf.at 0 (Rect.unit (s := S8) ![(BitVec.ofNat 32 (i 0).val).toNat] S1.size (Gen.k0_off1_inb i)) Gen.numel1_S1

/-- A batch coordinate is its own word. -/
theorem word_batch (i : grid0.Coords) : (BitVec.ofNat 32 (i 0).val).toNat = (i 0).val := by
  have : (i 0).val < 8 := (i 0).isLt
  rw [BitVec.toNat_ofNat]; omega

/-- The chunk a grid point reads is one of the sixteen. -/
theorem chunk_le (pf : pre0.Contents (Elt F)) (i : grid0.Coords) (h : Admissible (lenAt pf i)) : min (chunks (lenAt pf i) - 1) (i 1).val + 1 ≤ 16 := by
  have : (i 1).val < 16 := (i 1).isLt
  omega

/-- The block of codes a grid point reads, of its batch: its own chunk or else the last live one. -/
theorem transform_2 (pf : pre0.Contents (Elt F)) (i : grid0.Coords) (h : Admissible (lenAt pf i)) :
    cc0_transform_2 Gen.k0_off1_inb Gen.numel1_S1 pf i = ![(i 0).val, min (chunks (lenAt pf i) - 1) (i 1).val, 0] := by
  show ![(BitVec.ofNat 32 (i 0).val).toNat, (Scalar.minsi (BitVec.ofNat 32 (i 1).val) (Scalar.subi (Scalar.divsi (Scalar.addi (lenAt pf i) 1023#32) 1024#32) 1#32)).toNat, 0] = _
  rw [chunk_word h (i 1).isLt, word_batch i]

/-- The block of transposed scales a grid point reads, of its batch: its own chunk or else the last live one. -/
theorem transform_3 (pf : pre0.Contents (Elt F)) (i : grid0.Coords) (h : Admissible (lenAt pf i)) :
    cc0_transform_3 Gen.k0_off1_inb Gen.numel1_S1 pf i = ![(i 0).val, 0, min (chunks (lenAt pf i) - 1) (i 1).val] := by
  show ![(BitVec.ofNat 32 (i 0).val).toNat, 0, (Scalar.minsi (BitVec.ofNat 32 (i 1).val) (Scalar.subi (Scalar.divsi (Scalar.addi (lenAt pf i) 1023#32) 1024#32) 1#32)).toNat] = _
  rw [chunk_word h (i 1).isLt, word_batch i]

/-- The block of transposed keys a grid point reads, of its batch: its own chunk or else the last live one. -/
theorem transform_4 (pf : pre0.Contents (Elt F)) (i : grid0.Coords) (h : Admissible (lenAt pf i)) :
    cc0_transform_4 Gen.k0_off1_inb Gen.numel1_S1 pf i = ![(i 0).val, 0, min (chunks (lenAt pf i) - 1) (i 1).val] := by
  show ![(BitVec.ofNat 32 (i 0).val).toNat, 0, (Scalar.minsi (BitVec.ofNat 32 (i 1).val) (Scalar.subi (Scalar.divsi (Scalar.addi (lenAt pf i) 1023#32) 1024#32) 1#32)).toNat] = _
  rw [chunk_word h (i 1).isLt, word_batch i]

/-- When the length of every grid point is admissible, the table satisfies the pipeline's side condition. -/
theorem ok_of_admissible (pf : pre0.Contents (Elt F)) (h : ∀ i, Admissible (lenAt pf i)) : ok0 (F := F) pf := by
  refine ⟨fun i => ⟨fun a => ?_, .inr (Affine.block_words_dvd (of_decide_eq_true rfl) (by decide))⟩,
    fun i => ⟨fun a => ?_, .inl rfl⟩, fun i => ⟨fun a => ?_, .inr (Affine.block_words_dvd (of_decide_eq_true rfl) (by decide))⟩⟩
  · rw [transform_2 pf i (h i)]
    fin_cases a
    · exact (Nat.mul_le_mul_right 1 (show (i 0).val + 1 ≤ 8 from (i 0).isLt))
    · exact (Nat.mul_le_mul_right 1024 (chunk_le pf i (h i)))
    · exact le_of_eq rfl
  · rw [transform_3 pf i (h i)]
    fin_cases a
    · exact (Nat.mul_le_mul_right 1 (show (i 0).val + 1 ≤ 8 from (i 0).isLt))
    · exact le_of_eq rfl
    · exact (Nat.mul_le_mul_right 1024 (chunk_le pf i (h i)))
  · rw [transform_4 pf i (h i)]
    fin_cases a
    · exact (Nat.mul_le_mul_right 1 (show (i 0).val + 1 ≤ 8 from (i 0).isLt))
    · exact le_of_eq rfl
    · exact (Nat.mul_le_mul_right 1024 (chunk_le pf i (h i)))

/-- When every entry of `lengths` is admissible, the pipeline's side condition holds of the launch. -/
theorem ok (m : (ℓ : Loc nD τ sig) → Buf (Elt F) ℓ) (h : ∀ (c : Dev nD) (j : S8.Idx), Admissible (m ((c.tc : Thread nD τ).loc main_arg5) j)) : Gen.Ok m := by
  refine ok_of_admissible _ fun i => ?_
  have e : tbl m 0 = m (((0 : Dev nD).tc : Thread nD τ).loc main_arg5) := V_main_arg5 m 0
  show Admissible (tbl m 0 _)
  rw [e]
  exact h 0 _

end Cert.Kernel

end
-- ==== Proof.KernelIdealOk.lean ====
/-
  The precondition keeps every block the idealized kernel reads inside its array: the chunk a grid point reads is one of the sixteen.
-/
module

public import proofs.«01_k».proof.Proof.Gen.KernelIdeal.Frame
public import proofs.«01_k».proof.Proof.Length

@[expose] public section

noncomputable section

namespace Cert.KernelIdeal

open Idealize.ShloMosaic Idealize.ShloMosaic.TcCoe Idealize.SL.Sem Cert.KernelIdeal.Gen Cert.Length

variable {F : FTy → Type} [FloatOps F] [Named F]

/-- The table's entry at a grid point: the length of its batch. -/
def lenAt (pf : pre0.Contents (Elt F)) (i : grid0.Coords) : BitVec 32 :=
  pf.at 0 (Rect.unit (s := S8) ![(BitVec.ofNat 32 (i 0).val).toNat] S1.size (Gen.k0_off1_inb i)) Gen.numel1_S1

/-- A batch coordinate is its own word. -/
theorem word_batch (i : grid0.Coords) : (BitVec.ofNat 32 (i 0).val).toNat = (i 0).val := by
  have : (i 0).val < 8 := (i 0).isLt
  rw [BitVec.toNat_ofNat]; omega

/-- The chunk a grid point reads is one of the sixteen. -/
theorem chunk_le (pf : pre0.Contents (Elt F)) (i : grid0.Coords) (h : Admissible (lenAt pf i)) : min (chunks (lenAt pf i) - 1) (i 1).val + 1 ≤ 16 := by
  have : (i 1).val < 16 := (i 1).isLt
  omega

/-- The block of codes a grid point reads, of its batch: its own chunk or else the last live one. -/
theorem transform_2 (pf : pre0.Contents (Elt F)) (i : grid0.Coords) (h : Admissible (lenAt pf i)) :
    cc0_transform_2 Gen.k0_off1_inb Gen.numel1_S1 pf i = ![(i 0).val, min (chunks (lenAt pf i) - 1) (i 1).val, 0] := by
  show ![(BitVec.ofNat 32 (i 0).val).toNat, (Scalar.minsi (BitVec.ofNat 32 (i 1).val) (Scalar.subi (Scalar.divsi (Scalar.addi (lenAt pf i) 1023#32) 1024#32) 1#32)).toNat, 0] = _
  rw [chunk_word h (i 1).isLt, word_batch i]

/-- The block of transposed scales a grid point reads, of its batch: its own chunk or else the last live one. -/
theorem transform_3 (pf : pre0.Contents (Elt F)) (i : grid0.Coords) (h : Admissible (lenAt pf i)) :
    cc0_transform_3 Gen.k0_off1_inb Gen.numel1_S1 pf i = ![(i 0).val, 0, min (chunks (lenAt pf i) - 1) (i 1).val] := by
  show ![(BitVec.ofNat 32 (i 0).val).toNat, 0, (Scalar.minsi (BitVec.ofNat 32 (i 1).val) (Scalar.subi (Scalar.divsi (Scalar.addi (lenAt pf i) 1023#32) 1024#32) 1#32)).toNat] = _
  rw [chunk_word h (i 1).isLt, word_batch i]

/-- The block of transposed keys a grid point reads, of its batch: its own chunk or else the last live one. -/
theorem transform_4 (pf : pre0.Contents (Elt F)) (i : grid0.Coords) (h : Admissible (lenAt pf i)) :
    cc0_transform_4 Gen.k0_off1_inb Gen.numel1_S1 pf i = ![(i 0).val, 0, min (chunks (lenAt pf i) - 1) (i 1).val] := by
  show ![(BitVec.ofNat 32 (i 0).val).toNat, 0, (Scalar.minsi (BitVec.ofNat 32 (i 1).val) (Scalar.subi (Scalar.divsi (Scalar.addi (lenAt pf i) 1023#32) 1024#32) 1#32)).toNat] = _
  rw [chunk_word h (i 1).isLt, word_batch i]

/-- When the length of every grid point is admissible, the table satisfies the pipeline's side condition. -/
theorem ok_of_admissible (pf : pre0.Contents (Elt F)) (h : ∀ i, Admissible (lenAt pf i)) : ok0 (F := F) pf := by
  refine ⟨fun i => ⟨fun a => ?_, .inr (Affine.block_words_dvd (of_decide_eq_true rfl) (by decide))⟩,
    fun i => ⟨fun a => ?_, .inl rfl⟩, fun i => ⟨fun a => ?_, .inr (Affine.block_words_dvd (of_decide_eq_true rfl) (by decide))⟩⟩
  · rw [transform_2 pf i (h i)]
    fin_cases a
    · exact (Nat.mul_le_mul_right 1 (show (i 0).val + 1 ≤ 8 from (i 0).isLt))
    · exact (Nat.mul_le_mul_right 1024 (chunk_le pf i (h i)))
    · exact le_of_eq rfl
  · rw [transform_3 pf i (h i)]
    fin_cases a
    · exact (Nat.mul_le_mul_right 1 (show (i 0).val + 1 ≤ 8 from (i 0).isLt))
    · exact le_of_eq rfl
    · exact (Nat.mul_le_mul_right 1024 (chunk_le pf i (h i)))
  · rw [transform_4 pf i (h i)]
    fin_cases a
    · exact (Nat.mul_le_mul_right 1 (show (i 0).val + 1 ≤ 8 from (i 0).isLt))
    · exact le_of_eq rfl
    · exact (Nat.mul_le_mul_right 1024 (chunk_le pf i (h i)))

/-- When every entry of `lengths` is admissible, the pipeline's side condition holds of the launch. -/
theorem ok (m : (ℓ : Loc nD τ sig) → Buf (Elt F) ℓ) (h : ∀ (c : Dev nD) (j : S8.Idx), Admissible (m ((c.tc : Thread nD τ).loc main_arg5) j)) : Gen.Ok m := by
  refine ok_of_admissible _ fun i => ?_
  have e : tbl m 0 = m (((0 : Dev nD).tc : Thread nD τ).loc main_arg5) := V_main_arg5 m 0
  show Admissible (tbl m 0 _)
  rw [e]
  exact h 0 _

end Cert.KernelIdeal

end
-- ==== Proof.Blocks.lean ====
module
public import proofs.«01_k».proof.Proof.KernelIdealOk
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Length
variable (m : (ℓ : Loc nD τ sig) → Buf (Elt Ideal) ℓ) (hO : Gen.Ok m) (c : Dev nD) (t : Fin (cfgM m hO).N)

/-- The coordinates of a grid point: batch and chunk. -/
theorem coords (t : Fin grid0.N) : (grid0.coords t 0).val = t.val / 16 ∧ (grid0.coords t 1).val = t.val % 16 := by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    omega

/-- The length of a grid point's batch. -/
theorem lenAt_eq (t : Fin grid0.N) (b : Fin 8) (hb : t.val / 16 = b.val) : lenAt (tbl m) (grid0.coords t) = m (((0 : Dev nD).tc : Thread nD τ).loc main_arg5) (ix1 b) := by
  have h := coords t
  have e : tbl m 0 = m (((0 : Dev nD).tc : Thread nD τ).loc main_arg5) := V_main_arg5 m 0
  show tbl m 0 _ = _
  rw [e]
  congr 1
  funext a
  match a with
  | ⟨0, _⟩ => apply Fin.ext; show (BitVec.ofNat 32 (grid0.coords t 0).val).toNat + 1 * 0 = b.val; rw [word_batch]; omega

/-- The query operand is a reshape of the queries. -/
theorem V_v0 : V m c main_v0 = shapeCast S8x512x512 (m ((c : Thread nD τ).loc main_arg0)) shapeCasts_S8x4x65536_S8x512x512 := by
  entry_read
  rfl

/-- The rotary query operand is a reshape of the rotary queries. -/
theorem V_v1 : V m c main_v1 = shapeCast S8x512x64 (m ((c : Thread nD τ).loc main_arg1)) shapeCasts_S8x4x128x64_S8x512x64 := by
  entry_read
  rfl

/-- The new rotary keys, padded. -/
theorem V_v2 : V m c main_v2 = pad S8x128x64 ![0, 0, 0] ![0, 124, 0] ![0, 0, 0] (m ((c : Thread nD τ).loc main_arg8)) (sitofp (F := Ideal) .bf16 (constantI S_ 32 0#32)) pads_S8x4x64_S8x128x64_000_01240_000 h_S_ := by
  entry_read
  rfl

/-- The scales, transposed. -/
theorem V_v3 : V m c main_v3 = transpose S8x4x16384 [0, 2, 1] (m ((c : Thread nD τ).loc main_arg3)) transposes_S8x16384x4_S8x4x16384_0_2_1 := by
  entry_read
  rfl

/-- The rotary keys, transposed. -/
theorem V_v4 : V m c main_v4 = transpose S8x64x16384 [0, 2, 1] (m ((c : Thread nD τ).loc main_arg4)) transposes_S8x16384x64_S8x64x16384_0_2_1 := by
  entry_read
  rfl

/-- Window 0's block index is the batch. -/
theorem idx0 : (pcfg0.win (adm m hO) 0).index t = ![t.val / 16, 0, 0] := by
  have h := coords t
  show ![(BitVec.ofNat 32 (grid0.coords t 0).val).toNat, 0, 0] = _
  rw [word_batch, h.1]

/-- Window 1's block index is the batch. -/
theorem idx1 : (pcfg0.win (adm m hO) 1).index t = ![t.val / 16, 0, 0] := by
  have h := coords t
  show ![(BitVec.ofNat 32 (grid0.coords t 0).val).toNat, 0, 0] = _
  rw [word_batch, h.1]

/-- Window 5's block index is the batch. -/
theorem idx5 : (pcfg0.win (adm m hO) 5).index t = ![t.val / 16, 0, 0] := by
  have h := coords t
  show ![(BitVec.ofNat 32 (grid0.coords t 0).val).toNat, 0, 0] = _
  rw [word_batch, h.1]

/-- Window 6's block index is the batch. -/
theorem idx6 : (pcfg0.win (adm m hO) 6).index t = ![t.val / 16, 0, 0] := by
  have h := coords t
  show ![(BitVec.ofNat 32 (grid0.coords t 0).val).toNat, 0, 0] = _
  rw [word_batch, h.1]

/-- Window 7's block index is the batch. -/
theorem idx7 : (pcfg0.win (adm m hO) 7).index t = ![t.val / 16, 0, 0] := by
  have h := coords t
  show ![(BitVec.ofNat 32 (grid0.coords t 0).val).toNat, 0, 0] = _
  rw [word_batch, h.1]

/-- Window 8's block index is the batch. -/
theorem idx8 : (pcfg0.win (adm m hO) 8).index t = ![t.val / 16, 0, 0] := by
  have h := coords t
  show ![(BitVec.ofNat 32 (grid0.coords t 0).val).toNat, 0, 0] = _
  rw [word_batch, h.1]

/-- Window 2's block index: the batch, and the grid point's chunk or else the last live one. -/
theorem idx2 (v : BitVec 32) (hv : lenAt (tbl m) (grid0.coords t) = v) (ha : Admissible v) : (pcfg0.win (adm m hO) 2).index t = ![t.val / 16, min (chunks v - 1) (t.val % 16), 0] := by
  have h := coords t
  show cc0_transform_2 Gen.k0_off1_inb Gen.numel1_S1 (tbl m) (grid0.coords t) = _
  rw [transform_2 _ _ (hv ▸ ha), hv, h.1, h.2]

/-- Window 3's block index: the batch, and the grid point's chunk or else the last live one. -/
theorem idx3 (v : BitVec 32) (hv : lenAt (tbl m) (grid0.coords t) = v) (ha : Admissible v) : (pcfg0.win (adm m hO) 3).index t = ![t.val / 16, 0, min (chunks v - 1) (t.val % 16)] := by
  have h := coords t
  show cc0_transform_3 Gen.k0_off1_inb Gen.numel1_S1 (tbl m) (grid0.coords t) = _
  rw [transform_3 _ _ (hv ▸ ha), hv, h.1, h.2]

/-- Window 4's block index: the batch, and the grid point's chunk or else the last live one. -/
theorem idx4 (v : BitVec 32) (hv : lenAt (tbl m) (grid0.coords t) = v) (ha : Admissible v) : (pcfg0.win (adm m hO) 4).index t = ![t.val / 16, 0, min (chunks v - 1) (t.val % 16)] := by
  have h := coords t
  show cc0_transform_4 Gen.k0_off1_inb Gen.numel1_S1 (tbl m) (grid0.coords t) = _
  rw [transform_4 _ _ (hv ▸ ha), hv, h.1, h.2]

end Cert.KernelIdeal.Value
end
-- ==== Proof.BlockReads.lean ====
module
public import proofs.«01_k».proof.Proof.Blocks

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Length
variable (m : (ℓ : Loc nD τ sig) → Buf (Elt Ideal) ℓ) (hO : Gen.Ok m) (c : Dev nD) (t : Fin (cfgM m hO).N) (b : Fin 8) (hb : t.val / 16 = b.val)
include hb

/-- Window 0's block is its batch's part of the operand. -/
theorem blk0 (p k : Fin 512) : iblk m hO c 0 t (ix3 0 p k) = V m c main_v0 (ix3 b p k) := by
  have e := idx0 m hO t
  blk_ext [iblk]
  · exact (congrArg (· + 0) ((congrFun e 0).trans hb))
  · refine (congrArg (fun z => z * _ + _) (congrFun e 1)).trans ?_
    simp <;> omega
  · refine (congrArg (fun z => z * _ + _) (congrFun e 2)).trans ?_
    simp <;> omega

/-- Window 1's block is its batch's part of the operand. -/
theorem blk1 (p : Fin 512) (k : Fin 64) : iblk m hO c 1 t (ix3 0 p k) = V m c main_v1 (ix3 b p k) := by
  have e := idx1 m hO t
  blk_ext [iblk]
  · exact (congrArg (· + 0) ((congrFun e 0).trans hb))
  · refine (congrArg (fun z => z * _ + _) (congrFun e 1)).trans ?_
    simp <;> omega
  · refine (congrArg (fun z => z * _ + _) (congrFun e 2)).trans ?_
    simp <;> omega

/-- Window 5's block is its batch's part of the operand. -/
theorem blk5 (p : Fin 4) (k : Fin 512) : iblk m hO c 5 t (ix3 0 p k) = V m c main_arg6 (ix3 b p k) := by
  have e := idx5 m hO t
  blk_ext [iblk]
  · exact (congrArg (· + 0) ((congrFun e 0).trans hb))
  · refine (congrArg (fun z => z * _ + _) (congrFun e 1)).trans ?_
    simp <;> omega
  · refine (congrArg (fun z => z * _ + _) (congrFun e 2)).trans ?_
    simp <;> omega

/-- Window 6's block is its batch's part of the operand. -/
theorem blk6 (p k : Fin 4) : iblk m hO c 6 t (ix3 0 p k) = V m c main_arg7 (ix3 b p k) := by
  have e := idx6 m hO t
  blk_ext [iblk]
  · exact (congrArg (· + 0) ((congrFun e 0).trans hb))
  · refine (congrArg (fun z => z * _ + _) (congrFun e 1)).trans ?_
    simp <;> omega
  · refine (congrArg (fun z => z * _ + _) (congrFun e 2)).trans ?_
    simp <;> omega

/-- Window 7's block is its batch's part of the operand. -/
theorem blk7 (p : Fin 128) (k : Fin 64) : iblk m hO c 7 t (ix3 0 p k) = V m c main_v2 (ix3 b p k) := by
  have e := idx7 m hO t
  blk_ext [iblk]
  · exact (congrArg (· + 0) ((congrFun e 0).trans hb))
  · refine (congrArg (fun z => z * _ + _) (congrFun e 1)).trans ?_
    simp <;> omega
  · refine (congrArg (fun z => z * _ + _) (congrFun e 2)).trans ?_
    simp <;> omega

variable (v : BitVec 32) (hv : lenAt (tbl m) (grid0.coords t) = v) (ha : Admissible v) (hl : 1024 * (t.val % 16) < v.toNat)
include hv ha hl

/-- A live chunk is the one the grid point reads. -/
theorem live_chunk : min (chunks v - 1) (t.val % 16) = t.val % 16 := by
  unfold chunks
  omega

/-- Window 2's block is the live chunk's part of the operand. -/
theorem blk2 (p : Fin 1024) (k : Fin 512) : iblk m hO c 2 t (ix3 0 p k) = V m c main_arg2 (ix3 b ⟨1024 * (t.val % 16) + p.val, by omega⟩ k) := by
  have e := idx2 m hO t v hv ha
  rw [live_chunk m hO t b hb v hv ha hl] at e
  blk_ext [iblk]
  · exact (congrArg (· + 0) ((congrFun e 0).trans hb))
  · exact (by omega : ∀ z : ℕ, z = t.val % 16 → z * 1024 + p.val = 1024 * (t.val % 16) + p.val) _ (congrFun e 1)
  · exact (by omega : ∀ z : ℕ, z = 0 → z * 512 + k.val = k.val) _ (congrFun e 2)

/-- Window 3's block is the live chunk's part of the operand. -/
theorem blk3 (p : Fin 1024) (k : Fin 4) : iblk m hO c 3 t (ix3 0 k p) = V m c main_v3 (ix3 b k ⟨1024 * (t.val % 16) + p.val, by omega⟩) := by
  have e := idx3 m hO t v hv ha
  rw [live_chunk m hO t b hb v hv ha hl] at e
  blk_ext [iblk]
  · exact (congrArg (· + 0) ((congrFun e 0).trans hb))
  · exact (by omega : ∀ z : ℕ, z = 0 → z * 4 + k.val = k.val) _ (congrFun e 1)
  · exact (by omega : ∀ z : ℕ, z = t.val % 16 → z * 1024 + p.val = 1024 * (t.val % 16) + p.val) _ (congrFun e 2)

/-- Window 4's block is the live chunk's part of the operand. -/
theorem blk4 (p : Fin 1024) (k : Fin 64) : iblk m hO c 4 t (ix3 0 k p) = V m c main_v4 (ix3 b k ⟨1024 * (t.val % 16) + p.val, by omega⟩) := by
  have e := idx4 m hO t v hv ha
  rw [live_chunk m hO t b hb v hv ha hl] at e
  blk_ext [iblk]
  · exact (congrArg (· + 0) ((congrFun e 0).trans hb))
  · exact (by omega : ∀ z : ℕ, z = 0 → z * 64 + k.val = k.val) _ (congrFun e 1)
  · exact (by omega : ∀ z : ℕ, z = t.val % 16 → z * 1024 + p.val = 1024 * (t.val % 16) + p.val) _ (congrFun e 2)

end Cert.KernelIdeal.Value
end
-- ==== Proof.Softmax.lean ====
/-
  The online softmax over the extended reals, with no program in sight.

  Scores `S i` and values `V i` are indexed by the naturals. A triple `(m, l, a)` SUMMARISES the first `n` of them when `m` is the largest score,
  `l` the sum of the weights `2 ^ ((S i - m) c)` and `a` the sum of the values times their weights. `Summary.step` is one round of the online
  softmax, `Summary.skip` says that masked scores (`⊥`) change nothing, and `weight_exp` that the weights are those of the plain softmax.
-/
module

public import Idealize.ShloMosaic.PureOps.Ideal
public import Mathlib.Data.EReal.Operations
public import Mathlib.Algebra.BigOperators.Fin
public import Mathlib.Analysis.SpecialFunctions.Pow.Real

@[expose] public section

noncomputable section

namespace Cert.Softmax

open Idealize.ShloMosaic

/-- The weight of score `s` against the maximum `m`: `2 ^ ((s - m) c)`. -/
def weight (c s m : EReal) : EReal := Ideal.exp2 ((s - m) * c)

/-- `2 ^ x` is never negative. -/
theorem exp2_nonneg (x : EReal) : 0 ≤ Ideal.exp2 x := by
  induction x with
  | bot => simp
  | top => simp
  | coe r => rw [Ideal.exp2_coe]; exact_mod_cast Real.rpow_nonneg (by norm_num) r

/-- A weight is never negative. -/
theorem weight_nonneg (c s m : EReal) : 0 ≤ weight c s m := exp2_nonneg _

/-- The weight of a masked score is zero. -/
theorem weight_bot {r : ℝ} (hr : 0 < r) (m : EReal) : weight r ⊥ m = 0 := by
  rw [weight, EReal.bot_sub, EReal.bot_mul_coe_of_pos hr]; rfl

/-- The weight against `⊤` is zero. -/
theorem weight_top {r : ℝ} (hr : 0 < r) (s : EReal) : weight r s ⊤ = 0 := by
  have : s - ⊤ = ⊥ := by rw [sub_eq_add_neg, EReal.neg_top, EReal.add_bot]
  rw [weight, this, EReal.bot_mul_coe_of_pos hr]; rfl

/-- The weight of a real score against a real maximum. -/
theorem weight_coe (r s m : ℝ) : weight r s m = ((2 : ℝ) ^ ((s - m) * r) : ℝ) := by
  rw [weight, ← EReal.coe_sub, ← EReal.coe_mul, Ideal.exp2_coe]; rfl

/-- A weight against a maximum at least the score is finite. -/
theorem weight_ne_top {r : ℝ} (hr : 0 < r) {s m : EReal} (h : s ≤ m) : weight r s m ≠ ⊤ := by
  induction m with
  | bot => rw [le_bot_iff.mp h, weight_bot hr]; exact EReal.zero_ne_top
  | top => rw [weight_top hr]; exact EReal.zero_ne_top
  | coe m =>
    induction s with
    | bot => rw [weight_bot hr]; exact EReal.zero_ne_top
    | top => exact absurd h (by simp)
    | coe s => rw [weight_coe]; exact EReal.coe_ne_top _

/-- Rescaling: the weight against an old maximum times the old maximum's weight against a new one is the weight against the new one. -/
theorem weight_mul {r : ℝ} (hr : 0 < r) {s m m' : EReal} (h : s ≤ m) (h' : m ≤ m') :
    weight r s m * weight r m m' = weight r s m' := by
  induction m' with
  | top => rw [weight_top hr, weight_top hr, mul_zero]
  | bot =>
    obtain rfl := le_bot_iff.mp h'
    obtain rfl := le_bot_iff.mp h
    rw [weight_bot hr, mul_zero]
  | coe m' =>
    induction m with
    | top => exact absurd h' (by simp)
    | bot => obtain rfl := le_bot_iff.mp h; rw [weight_bot hr, weight_bot hr, mul_zero]
    | coe m =>
      induction s with
      | top => exact absurd h (by simp)
      | bot => rw [weight_bot hr, weight_bot hr, zero_mul]
      | coe s =>
        rw [weight_coe, weight_coe, weight_coe, ← EReal.coe_mul, ← Real.rpow_add (by norm_num)]
        congr 2; ring

/-- The plain softmax's weight: `e ^ (s σ - m σ)` is `2 ^ ((s - m) σ / log 2)`. -/
theorem weight_exp {σ : ℝ} (hσ : 0 < σ) {s m : EReal} (h : s ≤ m) :
    Ideal.exp (s * σ - m * σ) = weight ((σ * (Real.log 2)⁻¹ : ℝ) : EReal) s m := by
  have hl : 0 < Real.log 2 := Real.log_pos (by norm_num)
  have hr : 0 < σ * (Real.log 2)⁻¹ := mul_pos hσ (inv_pos.mpr hl)
  induction m with
  | bot => obtain rfl := le_bot_iff.mp h; rw [weight_bot hr, EReal.bot_mul_coe_of_pos hσ, EReal.bot_sub]; rfl
  | top =>
    rw [weight_top hr, EReal.top_mul_coe_of_pos hσ, sub_eq_add_neg, EReal.neg_top, EReal.add_bot]; rfl
  | coe m =>
    induction s with
    | top => exact absurd h (by simp)
    | bot => rw [weight_bot hr, EReal.bot_mul_coe_of_pos hσ, EReal.bot_sub]; rfl
    | coe s =>
      rw [weight_coe, ← EReal.coe_mul, ← EReal.coe_mul, ← EReal.coe_sub, Ideal.exp_coe, Real.rpow_def_of_pos (by norm_num)]
      congr 2; field_simp

/-- A finite non-negative factor distributes over a finite sum of extended reals. -/
theorem sum_mul {ι : Type} (A : Finset ι) (f : ι → EReal) {x : EReal} (h0 : 0 ≤ x) (ht : x ≠ ⊤) :
    (∑ i ∈ A, f i) * x = ∑ i ∈ A, f i * x := by
  classical
  induction A using Finset.induction_on with
  | empty => simp
  | insert i A hi ih => rw [Finset.sum_insert hi, Finset.sum_insert hi, EReal.right_distrib_of_nonneg_of_ne_top h0 ht, ih]

/-- `(m, l, a)` summarises the first `n` scores and values. -/
structure Summary (c : EReal) (S V : ℕ → EReal) (n : ℕ) (m l a : EReal) : Prop where
  top : m = (Finset.range n).sup S
  sum : l = ∑ i ∈ Finset.range n, weight c (S i) m
  acc : a = ∑ i ∈ Finset.range n, weight c (S i) m * V i

/-- Nothing read yet. -/
theorem Summary.zero (c : EReal) (S V : ℕ → EReal) : Summary c S V 0 ⊥ 0 0 := ⟨by simp, by simp, by simp⟩

/-- The largest of `n + k` scores. -/
theorem sup_range_add (S : ℕ → EReal) (n k : ℕ) :
    (Finset.range (n + k)).sup S = max ((Finset.range n).sup S) (Finset.univ.sup fun i : Fin k => S (n + i)) := by
  apply le_antisymm
  · refine Finset.sup_le fun i hi => ?_
    rw [Finset.mem_range] at hi
    by_cases h : i < n
    · exact le_max_of_le_left (Finset.le_sup (Finset.mem_range.mpr h))
    · refine le_max_of_le_right ?_
      have := Finset.le_sup (f := fun i : Fin k => S (n + i)) (Finset.mem_univ (⟨i - n, by omega⟩ : Fin k))
      simpa [Nat.add_sub_cancel' (Nat.le_of_not_lt h)] using this
  · refine max_le (Finset.sup_le fun i hi => ?_) (Finset.sup_le fun i _ => ?_)
    · rw [Finset.mem_range] at hi; exact Finset.le_sup (Finset.mem_range.mpr (by omega))
    · exact Finset.le_sup (f := S) (Finset.mem_range.mpr (by omega))

/-- A sum over `n + k` terms. -/
theorem sum_range_add' (f : ℕ → EReal) (n k : ℕ) :
    ∑ i ∈ Finset.range (n + k), f i = ∑ i ∈ Finset.range n, f i + ∑ i : Fin k, f (n + i) := by
  rw [Finset.sum_range_add, Fin.sum_univ_eq_sum_range (fun i => f (n + i)) k]

/-- One round of the online softmax, over the next `k` scores and values. -/
theorem Summary.step {r : ℝ} (hr : 0 < r) {S V : ℕ → EReal} {n : ℕ} {m l a : EReal} (h : Summary r S V n m l a)
    (k : ℕ) {m' : EReal} (hm' : m' = max m (Finset.univ.sup fun i : Fin k => S (n + i))) :
    Summary r S V (n + k) m' (l * weight r m m' + ∑ i : Fin k, weight r (S (n + i)) m')
      (a * weight r m m' + ∑ i : Fin k, weight r (S (n + i)) m' * V (n + i)) := by
  have hle : m ≤ m' := hm' ▸ le_max_left _ _
  have hS : ∀ i ∈ Finset.range n, S i ≤ m := fun i hi => h.top ▸ Finset.le_sup hi
  have h0 := weight_nonneg r m m'
  have ht := weight_ne_top hr hle
  refine ⟨by rw [hm', sup_range_add, ← h.top], ?_, ?_⟩
  · rw [sum_range_add', h.sum, sum_mul _ _ h0 ht]
    congr 1
    exact Finset.sum_congr rfl fun i hi => weight_mul hr (hS i hi) hle
  · rw [sum_range_add' (fun i => weight r (S i) m' * V i), h.acc, sum_mul _ _ h0 ht]
    congr 1
    refine Finset.sum_congr rfl fun i hi => ?_
    rw [mul_right_comm, weight_mul hr (hS i hi) hle]

/-- Masked scores leave the summary as it is. -/
theorem Summary.skip {r : ℝ} (hr : 0 < r) {S V : ℕ → EReal} {n : ℕ} {m l a : EReal} (h : Summary r S V n m l a)
    (k : ℕ) (hk : ∀ i : Fin k, S (n + i) = ⊥) : Summary r S V (n + k) m l a := by
  have hsup : (Finset.univ.sup fun i : Fin k => S (n + i)) = ⊥ := by
    rw [Finset.sup_eq_bot_iff]; exact fun i _ => hk i
  refine ⟨by rw [sup_range_add, hsup, max_bot_right, ← h.top], ?_, ?_⟩
  · rw [sum_range_add', Finset.sum_eq_zero (s := Finset.univ) (fun i _ => by rw [hk i, weight_bot hr]), add_zero, ← h.sum]
  · rw [sum_range_add' (fun i => weight r (S i) m * V i),
      Finset.sum_eq_zero (s := Finset.univ) (fun i _ => by rw [hk i, weight_bot hr, zero_mul]), add_zero, ← h.acc]

/-- A positive factor goes through the largest of finitely many extended reals. -/
theorem sup_mul {ι : Type} (A : Finset ι) (f : ι → EReal) {σ : ℝ} (hσ : 0 < σ) :
    (A.sup fun i => f i * σ) = A.sup f * σ := by
  classical
  induction A using Finset.induction_on with
  | empty => simp [EReal.bot_mul_coe_of_pos hσ]
  | insert i A hi ih =>
    rw [Finset.sup_insert, Finset.sup_insert, ih]
    exact (Monotone.map_max (f := fun x : EReal => x * σ)
      (fun x y h => mul_le_mul_of_nonneg_right h (by exact_mod_cast hσ.le))).symm

end Cert.Softmax

end
-- ==== Proof.Consts.lean ====
/-
  The constants of the two idealized programs, and a running maximum from minus infinity as a supremum.
-/
module

public import proofs.«01_k».proof.KernelIdeal
public import proofs.«01_k».proof.ReferenceIdeal
public import Idealize.ShloMosaic.PureOps.IdealRules
public import Idealize.ShloMosaic.PureOps.Ideal

@[expose] public section

noncomputable section

namespace Cert.Consts

open Idealize.ShloMosaic

/-- The exponent's scale of the kernel, `1 / (√192 log 2)`. -/
def ρ : ℝ := (Real.sqrt 192)⁻¹ * (Real.log 2)⁻¹

theorem sqrt_pos : 0 < (Real.sqrt 192)⁻¹ := inv_pos.mpr (Real.sqrt_pos.mpr (by norm_num))

theorem ρ_pos : 0 < ρ := mul_pos sqrt_pos (inv_pos.mpr (Real.log_pos (by norm_num)))

/-- The kernel's mask is minus infinity. -/
theorem mask : Named.named (F := Ideal) Cert.KernelIdeal.κ "mask" (φ := .f32) 0xF149F2CA#32 = (⊥ : EReal) :=
  IdealRules.named_const.ideal_named_scalar _ _ _ _ rfl

/-- The kernel's exponent scale. -/
theorem exp2_scale : Named.named (F := Ideal) Cert.KernelIdeal.κ "exp2_scale" (φ := .f32) 0x3DD53B95#32 = ((ρ : ℝ) : EReal) :=
  IdealRules.named_const.ideal_named_scalar _ _ _ _ rfl

/-- The f32 pattern of minus infinity. -/
theorem negInf : Ideal.ofBits .f32 0xFF800000#32 = (⊥ : EReal) := by
  simp [Ideal.ofBits, Ideal.ieee]

/-- A maximum taken from minus infinity is the supremum. -/
theorem fold_max {ι : Type} (s : Finset ι) (f : ι → EReal) : Finset.fold max (Ideal.ofBits .f32 0xFF800000#32) f s = s.sup f := by
  rw [negInf]
  rfl

/-- The pattern of zero. -/
theorem zero : Ideal.ofBits .f32 0x00000000#32 = (0 : EReal) := by
  simp [Ideal.ofBits, Ideal.ieee]

/-- The pattern of 192. -/
theorem radicand : Ideal.ofBits .f32 0x43400000#32 = ((192 : ℝ) : EReal) := by
  simp [Ideal.ofBits, Ideal.ieee, -EReal.coe_mul]
  norm_num

/-- Dividing by the root of 192 is multiplying by its reciprocal. -/
theorem div_root (x : EReal) : Ideal.div x (Ideal.sqrt (Ideal.ofBits .f32 0x43400000#32)) = x * (((Real.sqrt 192)⁻¹ : ℝ) : EReal) := by
  have h : Ideal.sqrt ((192 : ℝ) : EReal) = ((Real.sqrt 192 : ℝ) : EReal) := by
    rw [Ideal.sqrt_coe, if_neg (by norm_num)]
  rw [radicand, h, Ideal.div_coe (Real.sqrt_pos.mpr (by norm_num)).ne', one_div]

end Cert.Consts

end
-- ==== Proof.Pieces.lean ====
/-
  What each phase of the kernel body computes, named: the dequantised keys, the masked scores, and the running maximum, total and sum.
-/
module
public import proofs.«01_k».proof.Proof.KernelIdealOk
public import proofs.«01_k».proof.Proof.Softmax
public import proofs.«01_k».proof.Proof.Consts
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The dequantised chunk the kernel scores and weights: its four column blocks, stored one by one and read back whole. -/
def kbuf (x2 : Vec Ideal S1x1024x512 .fp8e4m3) (x3 : Vec Ideal S1x4x1024 .f32) : Vec Ideal S1024x512 .bf16 :=
  fun j => View.canon (Val := Elt Ideal)
    [⟨Rect.unit ![0, 384] ![1024, 128] inb_S1024x512_S1024x128_0_384,
        k0_pay28 (k0_pay23 x3) (k0_pay27 (View.ld x2 (Rect.unit ![0, 0, 384] ![1, 1024, 128] inb_S1x1024x512_S1x1024x128_0_0_384)))⟩,
      ⟨Rect.unit ![0, 256] ![1024, 128] inb_S1024x512_S1024x128_0_256,
        k0_pay26 x3 (View.ld x2 (Rect.unit ![0, 0, 256] ![1, 1024, 128] inb_S1x1024x512_S1x1024x128_0_0_256))⟩,
      ⟨Rect.unit ![0, 128] ![1024, 128] inb_S1024x512_S1024x128_0_128,
        k0_pay25 x3 (View.ld x2 (Rect.unit ![0, 0, 128] ![1, 1024, 128] inb_S1x1024x512_S1x1024x128_0_0_128))⟩,
      ⟨Rect.unit ![0, 0] ![1024, 128] inb_S1024x512_S1024x128_0_0,
        k0_pay24 x3 (View.ld x2 (Rect.unit ![0, 0, 0] ![1, 1024, 128] inb_S1x1024x512_S1x1024x128_0_0_0))⟩]
    ((Rect.unit (s := S1024x512) ![0, 0] ![1024, 512] inb_S1024x512_S1024x512_0_0).toLoadRect.idx j)

/-- The dequantised chunk: a code times its block's scale. -/
theorem kbuf_apply (x2 : Vec Ideal S1x1024x512 .fp8e4m3) (x3 : Vec Ideal S1x4x1024 .f32) (p : Fin 1024) (k : Fin 512) :
    kbuf x2 x3 (ix2 p k) = x2 (ix3 0 p k) * x3 (ix3 0 (⟨k.val / 128, by omega⟩ : Fin 4) p) := by
  have e : (Rect.unit (s := S1024x512) ![0, 0] ![1024, 512] inb_S1024x512_S1024x512_0_0).toLoadRect.idx (ix2 p k) = ix2 p k := by
    funext a
    apply Fin.ext
    match a with
    | ⟨0, _⟩ => show 0 + 1 * p.val = p.val; omega
    | ⟨1, _⟩ => show 0 + 1 * k.val = k.val; omega
  unfold kbuf
  rw [e]
  canon_tiles x h
  all_goals
    open_payloads; pointwise
    change p.val = _ at h0
    change k.val = _ at h1
    have hp : p = x 0 := Fin.ext h0
    subst hp
    congr 2
    · congr 1; apply Fin.ext; simp only; omega
    · congr 1; exact Fin.ext (by show _ = k.val / 128; simp; omega)

/-- The length the kernel body reads from the table. -/
abbrev lenTb (c : Dev nD) (i : grid0.Coords) (xt0 : TbBuf0 (F := Ideal) c tbM0_0) : BitVec 32 :=
  tbM0_0.view.readAt (Elt Ideal) (Rect.unit (s := S8) (k0_off1 i) S1.size (k0_off1_inb i)).toLoadRect xt0 (Shape.Idx.first (numel1_S1.symm ▸ Nat.one_pos))

/-- The four new tokens of a batch, dequantised and padded with zeros to 128 rows. -/
def newBuf (x5 : Vec Ideal S1x4x512 .fp8e4m3) (x6 : Vec Ideal S1x4x4 .f32) : FVec Ideal S128x512 .bf16 :=
  k0_pay14 (F := Ideal) (k0_pay11 (F := Ideal) (View.ld x5 (Rect.unit (s := S1x4x512) ![0, 0, 0] ![1, 4, 128] inb_S1x4x512_S1x4x128_0_0_0)) (View.ld x6 (Rect.unit (s := S1x4x4) ![0, 0, 0] ![1, 4, 1] inb_S1x4x4_S1x4x1_0_0_0)))
    (k0_pay12 (F := Ideal) (View.ld x5 (Rect.unit (s := S1x4x512) ![0, 0, 128] ![1, 4, 128] inb_S1x4x512_S1x4x128_0_0_128)) (View.ld x6 (Rect.unit (s := S1x4x4) ![0, 0, 1] ![1, 4, 1] inb_S1x4x4_S1x4x1_0_0_1)))
    (k0_pay13 (F := Ideal) (View.ld x5 (Rect.unit (s := S1x4x512) ![0, 0, 256] ![1, 4, 128] inb_S1x4x512_S1x4x128_0_0_256))) (View.ld x6 (Rect.unit (s := S1x4x4) ![0, 0, 2] ![1, 4, 1] inb_S1x4x4_S1x4x1_0_0_2))
    (View.ld x5 (Rect.unit (s := S1x4x512) ![0, 0, 384] ![1, 4, 128] inb_S1x4x512_S1x4x128_0_0_384)) (View.ld x6 (Rect.unit (s := S1x4x4) ![0, 0, 3] ![1, 4, 1] inb_S1x4x4_S1x4x1_0_0_3))

/-- The scores of the query rows against the padded new tokens. -/
def newS (x0 : Vec Ideal S1x512x512 .bf16) (x1 : Vec Ideal S1x512x64 .bf16) (x5 : Vec Ideal S1x4x512 .fp8e4m3) (x6 : Vec Ideal S1x4x4 .f32) (x7 : Vec Ideal S1x128x64 .bf16) : FVec Ideal S512x128 .f32 :=
  k0_pay15 (F := Ideal) (k0_pay11 (F := Ideal) (View.ld x5 (Rect.unit (s := S1x4x512) ![0, 0, 0] ![1, 4, 128] inb_S1x4x512_S1x4x128_0_0_0)) (View.ld x6 (Rect.unit (s := S1x4x4) ![0, 0, 0] ![1, 4, 1] inb_S1x4x4_S1x4x1_0_0_0)))
    (k0_pay12 (F := Ideal) (View.ld x5 (Rect.unit (s := S1x4x512) ![0, 0, 128] ![1, 4, 128] inb_S1x4x512_S1x4x128_0_0_128)) (View.ld x6 (Rect.unit (s := S1x4x4) ![0, 0, 1] ![1, 4, 1] inb_S1x4x4_S1x4x1_0_0_1)))
    (k0_pay13 (F := Ideal) (View.ld x5 (Rect.unit (s := S1x4x512) ![0, 0, 256] ![1, 4, 128] inb_S1x4x512_S1x4x128_0_0_256))) (View.ld x6 (Rect.unit (s := S1x4x4) ![0, 0, 2] ![1, 4, 1] inb_S1x4x4_S1x4x1_0_0_2))
    (View.ld x5 (Rect.unit (s := S1x4x512) ![0, 0, 384] ![1, 4, 128] inb_S1x4x512_S1x4x128_0_0_384)) (View.ld x6 (Rect.unit (s := S1x4x4) ![0, 0, 3] ![1, 4, 1] inb_S1x4x4_S1x4x1_0_0_3)) x0 x1 x7

/-- The masked scores against the padded new tokens. -/
def newMasked (x0 : Vec Ideal S1x512x512 .bf16) (x1 : Vec Ideal S1x512x64 .bf16) (x5 : Vec Ideal S1x4x512 .fp8e4m3) (x6 : Vec Ideal S1x4x4 .f32) (x7 : Vec Ideal S1x128x64 .bf16) : FVec Ideal S512x128 .f32 :=
  k0_pay18 (newS x0 x1 x5 x6 x7) (iota .tc S512x128 32 [0] iota_S512x128_d0_w32) (128#32) k0_pay16 k0_pay17 (1#32)

/-- The running maximum after the new tokens. -/
def newM (x0 : Vec Ideal S1x512x512 .bf16) (x1 : Vec Ideal S1x512x64 .bf16) (x5 : Vec Ideal S1x4x512 .fp8e4m3) (x6 : Vec Ideal S1x4x4 .f32) (x7 : Vec Ideal S1x128x64 .bf16) : FVec Ideal S512x128 .f32 :=
  k0_pay1 (k0_pay19 (newS x0 x1 x5 x6 x7) (iota .tc S512x128 32 [0] iota_S512x128_d0_w32) (128#32) k0_pay16 k0_pay17 (1#32) (k0_pay8 (F := Ideal)))

/-- The running total weight after the new tokens. -/
def newL (x0 : Vec Ideal S1x512x512 .bf16) (x1 : Vec Ideal S1x512x64 .bf16) (x5 : Vec Ideal S1x4x512 .fp8e4m3) (x6 : Vec Ideal S1x4x4 .f32) (x7 : Vec Ideal S1x128x64 .bf16) : FVec Ideal S512x128 .f32 :=
  k0_pay22 (newS x0 x1 x5 x6 x7) (iota .tc S512x128 32 [0] iota_S512x128_d0_w32) (128#32) k0_pay16 k0_pay17 (1#32) (k0_pay8 (F := Ideal)) (k0_pay9 (F := Ideal))

/-- The running weighted sum of values after the new tokens. -/
def newA (x0 : Vec Ideal S1x512x512 .bf16) (x1 : Vec Ideal S1x512x64 .bf16) (x5 : Vec Ideal S1x4x512 .fp8e4m3) (x6 : Vec Ideal S1x4x4 .f32) (x7 : Vec Ideal S1x128x64 .bf16) : FVec Ideal S512x512 .f32 :=
  k0_pay2 (newBuf x5 x6) (k0_pay20 (newS x0 x1 x5 x6 x7) (iota .tc S512x128 32 [0] iota_S512x128_d0_w32) (128#32) k0_pay16 k0_pay17 (1#32) (k0_pay8 (F := Ideal)))
    (k0_pay21 (newS x0 x1 x5 x6 x7) (iota .tc S512x128 32 [0] iota_S512x128_d0_w32) (128#32) k0_pay16 k0_pay17 (1#32) (k0_pay8 (F := Ideal))) (k0_pay10 (F := Ideal))

/-- The masked scores of a chunk: `w` is the chunk's number, `v` the length. -/
def chunkS (w v : BitVec 32) (x0 : Vec Ideal S1x512x512 .bf16) (x1 : Vec Ideal S1x512x64 .bf16) (x2 : Vec Ideal S1x1024x512 .fp8e4m3) (x3 : Vec Ideal S1x4x1024 .f32) (x4 : Vec Ideal S1x64x1024 .bf16) : FVec Ideal S512x1024 .f32 :=
  k0_pay29 w v (kbuf x2 x3) x0 x1 x4

/-- The running maximum after a chunk. -/
def stepM (w v : BitVec 32) (x0 : Vec Ideal S1x512x512 .bf16) (x1 : Vec Ideal S1x512x64 .bf16) (x2 : Vec Ideal S1x1024x512 .fp8e4m3) (x3 : Vec Ideal S1x4x1024 .f32) (x4 : Vec Ideal S1x64x1024 .bf16) (M : Vec Ideal S512x128 .f32) : FVec Ideal S512x128 .f32 :=
  k0_pay5 (k0_pay30 w v (kbuf x2 x3) x0 x1 x4 M)

/-- The running total weight after a chunk. -/
def stepL (w v : BitVec 32) (x0 : Vec Ideal S1x512x512 .bf16) (x1 : Vec Ideal S1x512x64 .bf16) (x2 : Vec Ideal S1x1024x512 .fp8e4m3) (x3 : Vec Ideal S1x4x1024 .f32) (x4 : Vec Ideal S1x64x1024 .bf16) (M L : Vec Ideal S512x128 .f32) : FVec Ideal S512x128 .f32 :=
  k0_pay4 (k0_pay31 w v (kbuf x2 x3) x0 x1 x4 M) (k0_pay32 w v (kbuf x2 x3) x0 x1 x4 M) (Named.named (F := Ideal) κ "exp2_scale" 1037384597#32) L

/-- The running weighted sum of values after a chunk. -/
def stepA (w v : BitVec 32) (x0 : Vec Ideal S1x512x512 .bf16) (x1 : Vec Ideal S1x512x64 .bf16) (x2 : Vec Ideal S1x1024x512 .fp8e4m3) (x3 : Vec Ideal S1x4x1024 .f32) (x4 : Vec Ideal S1x64x1024 .bf16) (M : Vec Ideal S512x128 .f32) (A : Vec Ideal S512x512 .f32) : FVec Ideal S512x512 .f32 :=
  k0_pay6 (kbuf x2 x3) (k0_pay31 w v (kbuf x2 x3) x0 x1 x4 M) (k0_pay32 w v (kbuf x2 x3) x0 x1 x4 M) (Named.named (F := Ideal) κ "exp2_scale" 1037384597#32) A

/-- One store over the whole of a 512 by 128 buffer leaves what was stored. -/
theorem canon_whole (w : Vec Ideal S512x128 .f32) :
    View.canon (Val := Elt Ideal) [⟨Rect.unit (s := S512x128) ![0, 0] ![512, 128] inb_S512x128_S512x128_0_0, w⟩] = w :=
  View.canon_cons_unit_lit _ w [] (by intro a; fin_cases a <;> rfl)

/-- The first column of the running total weight, as the last phase reads it. -/
def col (L : Vec Ideal S512x128 .f32) : Vec Ideal S512x1 .f32 :=
  fun j => L ((Rect.unit (s := S512x128) ![0, 0] ![512, 1] inb_S512x128_S512x1_0_0).toLoadRect.idx j)

/-- The first column at a row. -/
theorem col_apply (L : Vec Ideal S512x128 .f32) (r : Fin 512) : col L (ix2 r 0) = L (ix2 r 0) := by
  unfold col
  congr 1
  funext a
  apply Fin.ext
  match a with
  | ⟨0, _⟩ => show 0 + 1 * r.val = r.val; omega
  | ⟨1, _⟩ => rfl

end Cert.KernelIdeal.Value
end
-- ==== Proof.Steps.lean ====
/-
  Each phase of the kernel body as one step of the online softmax over the scores and values it reads.
-/
module
public import proofs.«01_k».proof.Proof.Pieces
public import proofs.«01_k».proof.Proof.Softmax
public import proofs.«01_k».proof.Proof.Consts

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Softmax
variable (x0 : Vec Ideal S1x512x512 .bf16) (x1 : Vec Ideal S1x512x64 .bf16) (x2 : Vec Ideal S1x1024x512 .fp8e4m3) (x3 : Vec Ideal S1x4x1024 .f32) (x4 : Vec Ideal S1x64x1024 .bf16) (x5 : Vec Ideal S1x4x512 .fp8e4m3) (x6 : Vec Ideal S1x4x4 .f32) (x7 : Vec Ideal S1x128x64 .bf16)

/-- The floor of a query row's number by 128, as the kernel computes it. -/
theorem row_word : ∀ p : Fin 512, Scalar.select
        (IntOp.andi
          (IntOp.cmpi CmpIPredicate.ne
            (IntOp.subi (BitVec.setWidth 32 (IntOp.cmpi CmpIPredicate.sgt (BitVec.ofNat 32 p.val) 0#32))
              (BitVec.setWidth 32 (IntOp.cmpi CmpIPredicate.slt (BitVec.ofNat 32 p.val) 0#32)))
            (Scalar.subi (1#32) (Scalar.extui (Scalar.cmpi CmpIPredicate.slt 128#32 0#32))))
          (IntOp.cmpi CmpIPredicate.ne (IntOp.remsi ArithUnit.vector (BitVec.ofNat 32 p.val) 128#32) 0#32))
        (IntOp.subi (IntOp.divsi ArithUnit.vector (BitVec.ofNat 32 p.val) 128#32) 1#32)
        (IntOp.divsi ArithUnit.vector (BitVec.ofNat 32 p.val) 128#32) = BitVec.ofNat 32 (p.val / 128) := by
  decide +kernel

/-- The dequantised new tokens: rows 4 and up are zero. -/
theorem newBuf_apply (p : Fin 128) (k : Fin 512) : newBuf x5 x6 (ix2 p k) =
    if h : p.val < 4 then x5 (ix3 0 ⟨p.val, h⟩ k) * x6 (ix3 0 ⟨p.val, h⟩ ⟨k.val / 128, by omega⟩) else 0 := by
  unfold newBuf
  pointwise [k0_pay14, k0_pay11, k0_pay12, k0_pay13]
  split
  · split
    · congr 2; congr 1; apply Fin.ext; show 0 = k.val / 128; omega
    · split
      · congr 2
        · congr 1; apply Fin.ext; simp only; omega
        · congr 1; apply Fin.ext; show 1 = k.val / 128; omega
      · split
        · congr 2
          · congr 1; apply Fin.ext; simp only; omega
          · congr 1; apply Fin.ext; show 2 = k.val / 128; omega
        · congr 2
          · congr 1; apply Fin.ext; simp only; omega
          · congr 1; apply Fin.ext; show 3 = k.val / 128; omega
  · rfl

/-- The score of a query row against a padded new token. -/
theorem newS_apply (p : Fin 512) (k : Fin 128) : newS x0 x1 x5 x6 x7 (ix2 p k) =
    ∑ x, x0 (ix3 0 p x) * newBuf x5 x6 (ix2 k x) + ∑ x, x1 (ix3 0 p x) * x7 (ix3 0 k x) := by
  unfold newS newBuf
  pointwise [k0_pay15]

/-- A signed comparison of two small words chooses by their numbers. -/
theorem select_sle (a b : ℕ) (ha : a < 1024) (hb : b < 1024) (x y : EReal) :
    Scalar.select (IntOp.cmpi CmpIPredicate.sle (BitVec.ofNat 32 a) (BitVec.ofNat 32 b)) x y = if a ≤ b then x else y := by
  rw [WordCmp.cmpi_sle_ofNat (by omega) (by omega), WordCmp.select_decide]

/-- The masked score: a new token is seen by the query rows of its own position and of later ones. -/
theorem newMasked_apply (p : Fin 512) (k : Fin 128) : newMasked x0 x1 x5 x6 x7 (ix2 p k) =
    if k.val ≤ p.val / 128 then newS x0 x1 x5 x6 x7 (ix2 p k) else ⊥ := by
  unfold newMasked
  pointwise [k0_pay18, k0_pay16, k0_pay17]
  rw [row_word, Consts.mask]
  exact select_sle k.val (p.val / 128) (by omega) (by omega) _ _

/-- The masked score of a chunk's token: it is seen when it lies before the length. -/
theorem chunkS_apply {j : ℕ} (hj : j < 16) {v : BitVec 32} (hv : v.toNat < 2 ^ 31) (r : Fin 512) (i : Fin 1024) : chunkS (BitVec.ofNat 32 j) v x0 x1 x2 x3 x4 (ix2 r i) =
    if 1024 * j + i.val < v.toNat then (∑ x, x0 (ix3 0 r x) * kbuf x2 x3 (ix2 i x) + ∑ x, x1 (ix3 0 r x) * x4 (ix3 0 x i)) else ⊥ := by
  unfold chunkS
  pointwise [k0_pay29]
  rw [Consts.mask]
  have e : IntOp.addi (BitVec.ofNat 32 i.val) (Scalar.muli (BitVec.ofNat 32 j) 1024#32) = BitVec.ofNat 32 (1024 * j + i.val) := by
    apply BitVec.eq_of_toNat_eq
    show (BitVec.ofNat 32 i.val + BitVec.ofNat 32 j * 1024#32).toNat = _
    simp only [BitVec.toNat_add, BitVec.toNat_mul, BitVec.toNat_ofNat]
    omega
  have ev : v = BitVec.ofNat 32 v.toNat := by simp
  rw [e, ev, WordCmp.cmpi_slt_ofNat (by omega) (by omega), WordCmp.select_decide, ← ev]

/-- The running maximum after the new tokens is the largest of their masked scores. -/
theorem newM_apply (r : Fin 512) (k : Fin 128) : newM x0 x1 x5 x6 x7 (ix2 r k) =
    Finset.univ.sup fun i : Fin 128 => newMasked x0 x1 x5 x6 x7 (ix2 r i) := by
  unfold newM newMasked
  pointwise [k0_pay1, k0_pay19, k0_pay8]
  rw [Consts.fold_max, Consts.mask, max_bot_left]

/-- The kernel's exponential of a scaled difference is the weight. -/
theorem weight_named (s m : EReal) :
    FloatOps.exp2 (F := Ideal) (φ := .f32) ((s - m) * Named.named (F := Ideal) κ "exp2_scale" (φ := .f32) 1037384597#32) = weight Consts.ρ s m := by
  rw [Consts.exp2_scale]
  rfl

/-- The running state after the new tokens summarises their scores and values. -/
theorem new_summary {S V : ℕ → EReal} {r d : Fin 512}
    (hS : ∀ i : Fin 128, newMasked x0 x1 x5 x6 x7 (ix2 r i) = S i) (hV : ∀ i : Fin 128, newBuf x5 x6 (ix2 i d) = V i) :
    Summary Consts.ρ S V 128 (newM x0 x1 x5 x6 x7 (ix2 r 0)) (newL x0 x1 x5 x6 x7 (ix2 r 0)) (newA x0 x1 x5 x6 x7 (ix2 r d)) := by
  have hM : newM x0 x1 x5 x6 x7 (ix2 r 0) = max ⊥ (Finset.univ.sup fun i : Fin 128 => S (0 + i)) := by
    rw [newM_apply, max_bot_left]; exact Finset.sup_congr rfl fun i _ => by rw [hS, zero_add]
  have hM' : k0_pay19 (newS x0 x1 x5 x6 x7) (iota .tc S512x128 32 [0] iota_S512x128_d0_w32) (128#32) k0_pay16 k0_pay17 (1#32) (k0_pay8 (F := Ideal)) (ix2 r 0) = newM x0 x1 x5 x6 x7 (ix2 r 0) := by
    unfold newM
    pointwise [k0_pay1]
  have hS' : ∀ i : Fin 128, k0_pay18 (newS x0 x1 x5 x6 x7) (iota .tc S512x128 32 [0] iota_S512x128_d0_w32) (128#32) k0_pay16 k0_pay17 (1#32) (ix2 r i) = S i := hS
  have h := (Summary.zero Consts.ρ S V).step Consts.ρ_pos 128 hM
  rw [zero_add] at h
  convert h using 1
  · unfold newL
    pointwise [k0_pay22, k0_pay21, k0_pay20, k0_pay9]
    simp only [hM', hS', hV, weight_named, zero_mul]
  · unfold newA
    pointwise [k0_pay2, k0_pay21, k0_pay20, k0_pay10]
    simp only [hM', hS', hV, weight_named, zero_mul]

/-- The running maximum after a chunk. -/
theorem stepM_apply (w v : BitVec 32) (M : Vec Ideal S512x128 .f32) (r : Fin 512) : stepM w v x0 x1 x2 x3 x4 M (ix2 r 0) =
    max (M (ix2 r 0)) (Finset.univ.sup fun i : Fin 1024 => chunkS w v x0 x1 x2 x3 x4 (ix2 r i)) := by
  unfold stepM chunkS
  pointwise [k0_pay5, k0_pay30]
  rw [Consts.fold_max]

/-- A chunk's step extends the summary by the chunk's scores and values. -/
theorem step_summary (w v : BitVec 32) (M L : Vec Ideal S512x128 .f32) (A : Vec Ideal S512x512 .f32) {S V : ℕ → EReal} {n : ℕ} {r d : Fin 512}
    (hS : ∀ i : Fin 1024, chunkS w v x0 x1 x2 x3 x4 (ix2 r i) = S (n + i)) (hV : ∀ i : Fin 1024, kbuf x2 x3 (ix2 i d) = V (n + i))
    (h : Summary Consts.ρ S V n (M (ix2 r 0)) (L (ix2 r 0)) (A (ix2 r d))) :
    Summary Consts.ρ S V (n + 1024) (stepM w v x0 x1 x2 x3 x4 M (ix2 r 0)) (stepL w v x0 x1 x2 x3 x4 M L (ix2 r 0)) (stepA w v x0 x1 x2 x3 x4 M A (ix2 r d)) := by
  have hM : stepM w v x0 x1 x2 x3 x4 M (ix2 r 0) = max (M (ix2 r 0)) (Finset.univ.sup fun i : Fin 1024 => S (n + i)) := by
    rw [stepM_apply]; congr 1; exact Finset.sup_congr rfl fun i _ => hS i
  have hM' : k0_pay30 w v (kbuf x2 x3) x0 x1 x4 M (ix2 r 0) = stepM w v x0 x1 x2 x3 x4 M (ix2 r 0) := by
    unfold stepM
    pointwise [k0_pay5]
  have hS' : ∀ i : Fin 1024, k0_pay29 w v (kbuf x2 x3) x0 x1 x4 (ix2 r i) = S (n + i) := hS
  have h := h.step Consts.ρ_pos 1024 hM
  convert h using 1
  · unfold stepL
    pointwise [k0_pay4, k0_pay3, k0_pay31, k0_pay32]
    simp only [hM', hS', hV, weight_named]
  · unfold stepA
    pointwise [k0_pay6, k0_pay3, k0_pay31, k0_pay32]
    simp only [hM', hS', hV, weight_named]

/-- The output: the weighted sum of values over the total weight. -/
theorem out_apply (A : Vec Ideal S512x512 .f32) (L : Vec Ideal S512x128 .f32) (r d : Fin 512) :
    k0_pay7 A (col L) (ix3 0 r d) = FloatOps.divf (F := Ideal) (φ := .f32) (A (ix2 r d)) (L (ix2 r 0)) := by
  pointwise [k0_pay7]
  rw [col_apply]

end Cert.KernelIdeal.Value
end
-- ==== Proof.Batch.lean ====
/-
  One batch of the attention problem as plain mathematics: its queries, keys and length, the masked score of every token,
  the values, and the output.
-/
module

public import proofs.«01_k».proof.Proof.Softmax
public import proofs.«01_k».proof.Proof.Consts
public import Idealize.ShloMosaic.Lib.Pipeline.ValueKit

@[expose] public section

noncomputable section

namespace Cert.Attn

open Idealize.ShloMosaic Cert.Softmax

/-- One batch: query rows (four positions of 128 heads each), the dequantised cache with its rotary part, the number of
live cache tokens, and the four new tokens. -/
structure Batch where
  q : Fin 512 → Fin 512 → EReal
  qr : Fin 512 → Fin 64 → EReal
  ck : Fin 16384 → Fin 512 → EReal
  kr : Fin 16384 → Fin 64 → EReal
  len : ℕ
  nk : Fin 4 → Fin 512 → EReal
  nr : Fin 4 → Fin 64 → EReal

variable (B : Batch)

/-- The score of a query row against a cache token. -/
def Batch.cacheScore (r : Fin 512) (p : Fin 16384) : EReal := ∑ k, B.q r k * B.ck p k + ∑ k, B.qr r k * B.kr p k

/-- The score of a query row against a new token. -/
def Batch.newScore (r : Fin 512) (p : Fin 4) : EReal := ∑ k, B.q r k * B.nk p k + ∑ k, B.qr r k * B.nr p k

/-- The masked scores of a query row: the new tokens first, padded to 128, then the cache. A new token is seen from its
own position on; a cache token when it lies before the length. -/
def Batch.score (r : Fin 512) (n : ℕ) : EReal :=
  if n < 128 then (if h : n < 4 then (if n ≤ r.val / 128 then B.newScore r ⟨n, h⟩ else ⊥) else ⊥)
  else if h : n - 128 < 16384 then (if n - 128 < B.len then B.cacheScore r ⟨n - 128, h⟩ else ⊥) else ⊥

/-- The values of a column in the same order; the padding is zero. -/
def Batch.value (d : Fin 512) (n : ℕ) : EReal :=
  if n < 128 then (if h : n < 4 then B.nk ⟨n, h⟩ d else 0) else if h : n - 128 < 16384 then B.ck ⟨n - 128, h⟩ d else 0

/-- The largest masked score of a query row. -/
def Batch.top (r : Fin 512) : EReal := (Finset.range (128 + 16384)).sup (B.score r)

/-- The output of a query row at a column: the weighted sum of values over the total weight. -/
def Batch.out (r d : Fin 512) : EReal :=
  FloatOps.divf (F := Ideal) (φ := .f32) (∑ i ∈ Finset.range (128 + 16384), weight Consts.ρ (B.score r i) (B.top r) * B.value d i)
    (∑ i ∈ Finset.range (128 + 16384), weight Consts.ρ (B.score r i) (B.top r))

/-- A padded new token's masked score. -/
theorem Batch.score_new (r : Fin 512) (i : Fin 128) :
    B.score r i.val = if h : i.val ≤ r.val / 128 then B.newScore r ⟨i.val, by omega⟩ else ⊥ := by
  unfold Batch.score
  rw [if_pos i.isLt]
  by_cases h : i.val ≤ r.val / 128
  · rw [dif_pos (by omega), if_pos h, dif_pos h]
  · rw [dif_neg h]
    split <;> simp only [h, if_false]

/-- A padded new token's value. -/
theorem Batch.value_new (d : Fin 512) (i : Fin 128) : B.value d i.val = if h : i.val < 4 then B.nk ⟨i.val, h⟩ d else 0 := by
  unfold Batch.value
  rw [if_pos i.isLt]

/-- A cache token's masked score. -/
theorem Batch.score_cache (r : Fin 512) (p : Fin 16384) :
    B.score r (128 + p.val) = if p.val < B.len then B.cacheScore r p else ⊥ := by
  unfold Batch.score
  rw [if_neg (by omega), dif_pos (by omega)]
  simp only [Nat.add_sub_cancel_left]

/-- A cache token's value. -/
theorem Batch.value_cache (d : Fin 512) (p : Fin 16384) : B.value d (128 + p.val) = B.ck p d := by
  unfold Batch.value
  rw [if_neg (by omega), dif_pos (by omega)]
  simp only [Nat.add_sub_cancel_left]

/-- A block of cells of the literal shape, as one batch. -/
def batchOf (a0 : (⟨3, ![8, 4, 65536]⟩ : Shape).Idx → EReal) (a1 : (⟨4, ![8, 4, 128, 64]⟩ : Shape).Idx → EReal)
    (a2 : (⟨3, ![8, 16384, 512]⟩ : Shape).Idx → EReal) (a3 : (⟨3, ![8, 16384, 4]⟩ : Shape).Idx → EReal)
    (a4 : (⟨3, ![8, 16384, 64]⟩ : Shape).Idx → EReal) (a5 : (⟨1, ![8]⟩ : Shape).Idx → BitVec 32)
    (a6 : (⟨3, ![8, 4, 512]⟩ : Shape).Idx → EReal) (a7 : (⟨3, ![8, 4, 4]⟩ : Shape).Idx → EReal)
    (a8 : (⟨3, ![8, 4, 64]⟩ : Shape).Idx → EReal) (b : Fin 8) : Batch where
  q r k := a0 (ix3 b (⟨r.val / 128, by omega⟩ : Fin 4) (⟨r.val % 128 * 512 + k.val, by omega⟩ : Fin 65536))
  qr r k := a1 (ix4 b (⟨r.val / 128, by omega⟩ : Fin 4) (⟨r.val % 128, by omega⟩ : Fin 128) k)
  ck p k := a2 (ix3 b p k) * a3 (ix3 b p (⟨k.val / 128, by omega⟩ : Fin 4))
  kr p k := a4 (ix3 b p k)
  len := (a5 (ix1 b)).toNat
  nk p k := a6 (ix3 b p k) * a7 (ix3 b p (⟨k.val / 128, by omega⟩ : Fin 4))
  nr p k := a8 (ix3 b p k)

end Cert.Attn

end
-- ==== Proof.KernelBatch.lean ====
/-
  The kernel's operands and blocks at a grid point, in terms of the batch they belong to.
-/
module
public import proofs.«01_k».proof.Proof.BlockReads
public import proofs.«01_k».proof.Proof.Steps
public import proofs.«01_k».proof.Proof.Batch

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Length Cert.Attn
variable (m : (ℓ : Loc nD τ sig) → Buf (Elt Ideal) ℓ) (hO : Gen.Ok m) (c : Dev nD)

/-- The batch a launch memory holds. -/
def batch (b : Fin 8) : Batch :=
  batchOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b

/-- The query operand's rows are the batch's query rows. -/
theorem v0_batch (b : Fin 8) (r k : Fin 512) : V m c main_v0 (ix3 b r k) = (batch m c b).q r k := by
  rw [V_v0]
  refine shapeCast_apply _ _ _ (ix3 b (⟨r.val / 128, by omega⟩ : Fin 4) (⟨r.val % 128 * 512 + k.val, by omega⟩ : Fin 65536)) ?_
  rw [Shape.rowMajor_val_three, Shape.rowMajor_val_three]
  show (b.val * 4 + r.val / 128) * 65536 + (r.val % 128 * 512 + k.val) = (b.val * 512 + r.val) * 512 + k.val
  omega

/-- The rotary query operand's rows are the batch's rotary query rows. -/
theorem v1_batch (b : Fin 8) (r : Fin 512) (k : Fin 64) : V m c main_v1 (ix3 b r k) = (batch m c b).qr r k := by
  rw [V_v1]
  refine shapeCast_apply _ _ _ (ix4 b (⟨r.val / 128, by omega⟩ : Fin 4) (⟨r.val % 128, by omega⟩ : Fin 128) k) ?_
  rw [Shape.rowMajor_val_four, Shape.rowMajor_val_three]
  show ((b.val * 4 + r.val / 128) * 128 + r.val % 128) * 64 + k.val = (b.val * 512 + r.val) * 64 + k.val
  omega

/-- The first four rows of the padded rotary keys are the batch's new rotary keys. -/
theorem v2_batch (b : Fin 8) (r : Fin 4) (k : Fin 64) :
    V m c main_v2 (ix3 b (⟨r.val, by omega⟩ : Fin 128) k) = (batch m c b).nr r k := by
  rw [V_v2]
  pointwise
  rw [dif_pos]
  · rfl
  · intro a
    fin_cases a
    · exact ⟨Nat.zero_le _, Nat.mod_one _, by show (b.val - 0) / 1 < 8; omega⟩
    · exact ⟨Nat.zero_le _, Nat.mod_one _, by show (r.val - 0) / 1 < 4; omega⟩
    · exact ⟨Nat.zero_le _, Nat.mod_one _, by show (k.val - 0) / 1 < 64; omega⟩

/-- The transposed scales are the scales. -/
theorem v3_arg (b : Fin 8) (p : Fin 16384) (k : Fin 4) :
    V m c main_v3 (ix3 b k p) = m ((c : Thread nD τ).loc main_arg3) (ix3 b p k) := by
  rw [V_v3]
  pointwise

/-- The transposed rotary keys are the batch's rotary keys. -/
theorem v4_batch (b : Fin 8) (p : Fin 16384) (k : Fin 64) : V m c main_v4 (ix3 b k p) = (batch m c b).kr p k := by
  rw [V_v4]
  pointwise
  rfl

/-- What a grid point's blocks of queries and new tokens hold: batch `B`'s. -/
structure NewBlocks (B : Batch) (x0 : Vec Ideal S1x512x512 .bf16) (x1 : Vec Ideal S1x512x64 .bf16)
    (x5 : Vec Ideal S1x4x512 .fp8e4m3) (x6 : Vec Ideal S1x4x4 .f32) (x7 : Vec Ideal S1x128x64 .bf16) : Prop where
  q : ∀ r k, x0 (ix3 0 r k) = B.q r k
  qr : ∀ r k, x1 (ix3 0 r k) = B.qr r k
  nk : ∀ (p : Fin 4) (k : Fin 512), x5 (ix3 0 p k) * x6 (ix3 0 p (⟨k.val / 128, by omega⟩ : Fin 4)) = B.nk p k
  nr : ∀ (p : Fin 4) (k : Fin 64), x7 (ix3 0 (⟨p.val, by omega⟩ : Fin 128) k) = B.nr p k

/-- What a grid point's blocks of the cache hold: chunk `j` of batch `B`'s. -/
structure LiveBlocks (B : Batch) (j : Fin 16) (x2 : Vec Ideal S1x1024x512 .fp8e4m3) (x3 : Vec Ideal S1x4x1024 .f32)
    (x4 : Vec Ideal S1x64x1024 .bf16) : Prop where
  ck : ∀ (p : Fin 1024) (k : Fin 512), x2 (ix3 0 p k) * x3 (ix3 0 (⟨k.val / 128, by omega⟩ : Fin 4) p) = B.ck ⟨1024 * j.val + p.val, by omega⟩ k
  kr : ∀ (p : Fin 1024) (k : Fin 64), x4 (ix3 0 k p) = B.kr ⟨1024 * j.val + p.val, by omega⟩ k

section
variable {B : Batch} {j : Fin 16} {x0 : Vec Ideal S1x512x512 .bf16} {x1 : Vec Ideal S1x512x64 .bf16} {x2 : Vec Ideal S1x1024x512 .fp8e4m3}
  {x3 : Vec Ideal S1x4x1024 .f32} {x4 : Vec Ideal S1x64x1024 .bf16} {x5 : Vec Ideal S1x4x512 .fp8e4m3} {x6 : Vec Ideal S1x4x4 .f32}
  {x7 : Vec Ideal S1x128x64 .bf16} (hN : NewBlocks B x0 x1 x5 x6 x7) (hL : LiveBlocks B j x2 x3 x4)

include hN in
/-- The new tokens' values, padded. -/
theorem newBuf_batch (i : Fin 128) (d : Fin 512) : newBuf x5 x6 (ix2 i d) = B.value d i.val := by
  rw [newBuf_apply, Batch.value_new]
  by_cases h : i.val < 4
  · rw [dif_pos h, dif_pos h, ← hN.nk]
  · rw [dif_neg h, dif_neg h]

include hN in
/-- The new tokens' masked scores, padded. -/
theorem newMasked_batch (r : Fin 512) (i : Fin 128) : newMasked x0 x1 x5 x6 x7 (ix2 r i) = B.score r i.val := by
  rw [newMasked_apply, Batch.score_new]
  by_cases h : i.val ≤ r.val / 128
  · have h4 : i.val < 4 := by omega
    rw [if_pos h, dif_pos h, newS_apply]
    unfold Batch.newScore
    refine congrArg₂ (· + ·) (Finset.sum_congr rfl fun x _ => ?_) (Finset.sum_congr rfl fun x _ => ?_)
    · rw [hN.q, newBuf_batch hN, Batch.value_new, dif_pos h4]
    · rw [hN.qr, ← hN.nr]
  · rw [if_neg h, dif_neg h]

include hL in
/-- The values of a live chunk. -/
theorem kbuf_batch (i : Fin 1024) (d : Fin 512) : kbuf x2 x3 (ix2 i d) = B.value d (128 + 1024 * j.val + i.val) := by
  rw [kbuf_apply, Nat.add_assoc, Batch.value_cache _ d (⟨1024 * j.val + i.val, by omega⟩ : Fin 16384), ← hL.ck]

include hN hL in
/-- The masked scores of a live chunk. -/
theorem chunkS_batch {v : BitVec 32} (ha : Admissible v) (hv : v.toNat = B.len) (r : Fin 512) (i : Fin 1024) :
    chunkS (BitVec.ofNat 32 j.val) v x0 x1 x2 x3 x4 (ix2 r i) = B.score r (128 + 1024 * j.val + i.val) := by
  rw [chunkS_apply _ _ _ _ _ j.isLt (by have := ha; unfold Admissible at this; omega), Nat.add_assoc,
    Batch.score_cache _ r (⟨1024 * j.val + i.val, by omega⟩ : Fin 16384), ← hv]
  by_cases h : 1024 * j.val + i.val < v.toNat
  · rw [if_pos h, if_pos h]
    unfold Batch.cacheScore
    refine congrArg₂ (· + ·) (Finset.sum_congr rfl fun x _ => ?_) (Finset.sum_congr rfl fun x _ => ?_)
    · rw [hN.q, kbuf_apply, ← hL.ck]
    · rw [hN.qr, ← hL.kr]
  · rw [if_neg h, if_neg h]

include hN in
/-- The new tokens summarised. -/
theorem new_batch (r d : Fin 512) : Softmax.Summary Consts.ρ (B.score r) (B.value d) 128 (newM x0 x1 x5 x6 x7 (ix2 r 0))
    (newL x0 x1 x5 x6 x7 (ix2 r 0)) (newA x0 x1 x5 x6 x7 (ix2 r d)) :=
  new_summary x0 x1 x5 x6 x7 (fun i => newMasked_batch hN r i) fun i => newBuf_batch hN i d

include hN hL in
/-- A live chunk joins the summary. -/
theorem step_batch {v : BitVec 32} (ha : Admissible v) (hv : v.toNat = B.len) {w : BitVec 32} (hw : w = BitVec.ofNat 32 j.val)
    (M : Vec Ideal S512x128 .f32) (L : Vec Ideal S512x128 .f32) (A : Vec Ideal S512x512 .f32) (r d : Fin 512)
    (h : Softmax.Summary Consts.ρ (B.score r) (B.value d) (128 + 1024 * j.val) (M (ix2 r 0)) (L (ix2 r 0)) (A (ix2 r d))) :
    Softmax.Summary Consts.ρ (B.score r) (B.value d) (128 + 1024 * (j.val + 1)) (stepM w v x0 x1 x2 x3 x4 M (ix2 r 0))
      (stepL w v x0 x1 x2 x3 x4 M L (ix2 r 0)) (stepA w v x0 x1 x2 x3 x4 M A (ix2 r d)) := by
  subst hw
  exact step_summary x0 x1 x2 x3 x4 _ v M L A (fun i => chunkS_batch hN hL ha hv r i) (fun i => kbuf_batch hL i d) h

/-- A chunk past the length leaves the summary as it is. -/
theorem skip_batch {m l a : EReal} (r d : Fin 512) (hj : B.len ≤ 1024 * j.val)
    (h : Softmax.Summary Consts.ρ (B.score r) (B.value d) (128 + 1024 * j.val) m l a) :
    Softmax.Summary Consts.ρ (B.score r) (B.value d) (128 + 1024 * (j.val + 1)) m l a := by
  refine h.skip Consts.ρ_pos 1024 fun i => ?_
  rw [Nat.add_assoc, Batch.score_cache _ r (⟨1024 * j.val + i.val, by omega⟩ : Fin 16384), if_neg (by simp only; omega)]

/-- Once every chunk has been joined, the quotient is the output. -/
theorem out_batch (A : Vec Ideal S512x512 .f32) (L : Vec Ideal S512x128 .f32) (r d : Fin 512) {m : EReal}
    (h : Softmax.Summary Consts.ρ (B.score r) (B.value d) (128 + 16384) m (L (ix2 r 0)) (A (ix2 r d))) :
    k0_pay7 (F := Ideal) A (col L) (ix3 0 r d) = B.out r d := by
  rw [out_apply, h.sum, h.acc, h.top]
  rfl
end

variable (t : Fin (cfgM m hO).N) (b : Fin 8) (hb : t.val / 16 = b.val)

include hb in
/-- The blocks of queries and new tokens at a grid point. -/
theorem newBlocks : NewBlocks (batch m c b) (iblk m hO c 0 t) (iblk m hO c 1 t) (iblk m hO c 5 t) (iblk m hO c 6 t) (iblk m hO c 7 t) where
  q r k := (blk0 m hO c t b hb r k).trans (v0_batch m c b r k)
  qr r k := (blk1 m hO c t b hb r k).trans (v1_batch m c b r k)
  nk p k := congrArg₂ (fun x y : EReal => x * y) (blk5 m hO c t b hb p k) (blk6 m hO c t b hb p _)
  nr p k := (blk7 m hO c t b hb _ k).trans (v2_batch m c b p k)

variable (v : BitVec 32) (hv : lenAt (tbl m) (grid0.coords t) = v) (ha : Admissible v) (hl : 1024 * (t.val % 16) < v.toNat)

include hb hv ha hl in
/-- The blocks of the cache at a grid point whose chunk is live. -/
theorem liveBlocks : LiveBlocks (batch m c b) ⟨t.val % 16, by omega⟩ (iblk m hO c 2 t) (iblk m hO c 3 t) (iblk m hO c 4 t) where
  ck p k := congrArg₂ (fun x y : EReal => x * y) (blk2 m hO c t b hb v hv ha hl p k)
      ((blk3 m hO c t b hb v hv ha hl p _).trans (v3_arg m c b _ _))
  kr p k := (blk4 m hO c t b hb v hv ha hl p k).trans (v4_batch m c b _ k)

end Cert.KernelIdeal.Value
end
-- ==== Proof.Cases.lean ====
module
public import proofs.«01_k».proof.Proof.Pieces

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (c : Dev nD) (i : grid0.Coords) (arg3 : Memref sig .tc .vmem S1x512x512 .bf16) (harg3 : arg3.IsWhole)
  (arg4 : Memref sig .tc .vmem S1x512x64 .bf16) (harg4 : arg4.IsWhole)
  (arg5 : Memref sig .tc .vmem S1x1024x512 .fp8e4m3) (harg5 : arg5.IsWhole)
  (arg6 : Memref sig .tc .vmem S1x4x1024 .f32) (harg6 : arg6.IsWhole)
  (arg7 : Memref sig .tc .vmem S1x64x1024 .bf16) (harg7 : arg7.IsWhole)
  (arg8 : Memref sig .tc .vmem S1x4x512 .fp8e4m3) (harg8 : arg8.IsWhole)
  (arg9 : Memref sig .tc .vmem S1x4x4 .f32) (harg9 : arg9.IsWhole)
  (arg10 : Memref sig .tc .vmem S1x128x64 .bf16) (harg10 : arg10.IsWhole)
  (arg11 : Memref sig .tc .vmem S1x512x512 .bf16) (harg11 : arg11.IsWhole)
  (arg12 : Memref sig .tc .vmem S512x512 .f32) (harg12 : arg12.IsWhole)
  (arg13 : Memref sig .tc .vmem S512x128 .f32) (harg13 : arg13.IsWhole)
  (arg14 : Memref sig .tc .vmem S512x128 .f32) (harg14 : arg14.IsWhole)
  (arg15 : Memref sig .tc .vmem S1024x512 .bf16) (harg15 : arg15.IsWhole)
  (x0 : Vec Ideal S1x512x512 .bf16) (x1 : Vec Ideal S1x512x64 .bf16) (x2 : Vec Ideal S1x1024x512 .fp8e4m3) (x3 : Vec Ideal S1x4x1024 .f32) (x4 : Vec Ideal S1x64x1024 .bf16) (x5 : Vec Ideal S1x4x512 .fp8e4m3) (x6 : Vec Ideal S1x4x4 .f32) (x7 : Vec Ideal S1x128x64 .bf16)
  (xt0 : TbBuf0 (F := Ideal) c tbM0_0) (xs0 : Vec Ideal S512x512 .f32) (xs1 : Vec Ideal S512x128 .f32) (xs2 : Vec Ideal S512x128 .f32)

/-- The weighted sum after a batch's first grid point. -/
theorem first_acc (hc0 : cond0_0 i) (hc2 : ¬cond0_2 i) (hc1 : cond0_1 i (lenTb c i xt0)) :
    sout0_A_0 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 hc1 = stepA (BitVec.ofNat 32 (i 1).val) (lenTb c i xt0) x0 x1 x2 x3 x4 (newM x0 x1 x5 x6 x7) (newA x0 x1 x5 x6 x7) := by
  frame_out
  simp only [View.readCov_eq_canon']
  rfl

/-- The maximum after a batch's first grid point. -/
theorem first_max (hc0 : cond0_0 i) (hc2 : ¬cond0_2 i) (hc1 : cond0_1 i (lenTb c i xt0)) :
    sout0_A_1 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 hc1 = stepM (BitVec.ofNat 32 (i 1).val) (lenTb c i xt0) x0 x1 x2 x3 x4 (newM x0 x1 x5 x6 x7) := by
  frame_out
  simp only [View.readCov_eq_canon']
  rfl

/-- The total weight after a batch's first grid point. -/
theorem first_sum (hc0 : cond0_0 i) (hc2 : ¬cond0_2 i) (hc1 : cond0_1 i (lenTb c i xt0)) :
    sout0_A_2 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 hc1 = stepL (BitVec.ofNat 32 (i 1).val) (lenTb c i xt0) x0 x1 x2 x3 x4 (newM x0 x1 x5 x6 x7) (newL x0 x1 x5 x6 x7) := by
  frame_out
  simp only [View.readCov_eq_canon']
  rfl

/-- The weighted sum after a grid point with a live chunk. -/
theorem mid_acc (hc0 : ¬cond0_0 i) (hc2 : ¬cond0_2 i) (hc1 : cond0_1 i (lenTb c i xt0)) :
    sout0_C_0 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = stepA (BitVec.ofNat 32 (i 1).val) (lenTb c i xt0) x0 x1 x2 x3 x4 xs1 xs0 := by
  frame_out
  simp only [View.readCov_eq_canon']
  rfl

/-- The maximum after a grid point with a live chunk. -/
theorem mid_max (hc0 : ¬cond0_0 i) (hc2 : ¬cond0_2 i) (hc1 : cond0_1 i (lenTb c i xt0)) :
    sout0_C_1 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = stepM (BitVec.ofNat 32 (i 1).val) (lenTb c i xt0) x0 x1 x2 x3 x4 xs1 := by
  frame_out
  simp only [View.readCov_eq_canon']
  rfl

/-- The total weight after a grid point with a live chunk. -/
theorem mid_sum (hc0 : ¬cond0_0 i) (hc2 : ¬cond0_2 i) (hc1 : cond0_1 i (lenTb c i xt0)) :
    sout0_C_2 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = stepL (BitVec.ofNat 32 (i 1).val) (lenTb c i xt0) x0 x1 x2 x3 x4 xs1 xs2 := by
  frame_out
  simp only [View.readCov_eq_canon']
  rfl

/-- A grid point whose chunk is past the length changes nothing. -/
theorem skip_acc (hc0 : ¬cond0_0 i) (hc2 : ¬cond0_2 i) (hc1 : ¬cond0_1 i (lenTb c i xt0)) :
    sout0_D_0 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = xs0 := by
  rfl

/-- A grid point whose chunk is past the length changes nothing. -/
theorem skip_max (hc0 : ¬cond0_0 i) (hc2 : ¬cond0_2 i) (hc1 : ¬cond0_1 i (lenTb c i xt0)) :
    sout0_D_1 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = xs1 := by
  rfl

/-- A grid point whose chunk is past the length changes nothing. -/
theorem skip_sum (hc0 : ¬cond0_0 i) (hc2 : ¬cond0_2 i) (hc1 : ¬cond0_1 i (lenTb c i xt0)) :
    sout0_D_2 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = xs2 := by
  rfl

/-- The output of a batch's last grid point when its chunk is live. -/
theorem last_out (hc0 : ¬cond0_0 i) (hc2 : cond0_2 i) (hc1 : cond0_1 i (lenTb c i xt0)) :
    out0_E_8 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = k0_pay7 (stepA (BitVec.ofNat 32 (i 1).val) (lenTb c i xt0) x0 x1 x2 x3 x4 xs1 xs0) (col (stepL (BitVec.ofNat 32 (i 1).val) (lenTb c i xt0) x0 x1 x2 x3 x4 xs1 xs2)) := by
  frame_out
  simp only [View.readCov_eq_canon', canon_whole]
  rfl

/-- The output of a batch's last grid point when its chunk is past the length. -/
theorem last_out_skip (hc0 : ¬cond0_0 i) (hc2 : cond0_2 i) (hc1 : ¬cond0_1 i (lenTb c i xt0)) :
    out0_F_8 c i arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 xt0 xs0 xs1 xs2 hc1 = k0_pay7 xs0 (col xs2) := by
  frame_out
  rfl

end Cert.KernelIdeal.Value
end
-- ==== Proof.PointCases.lean ====
/-
  What a grid point leaves behind, in terms of its blocks and of what the grid point before left.
-/
module
public import proofs.«01_k».proof.Proof.Cases

@[expose] public section
set_option maxRecDepth 16384
set_option maxHeartbeats 2000000
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ) (hO : Gen.Ok m) (c : Dev nD) (t : Fin (cfgM m hO).N)

/-- The weighted sum after a batch's first grid point. -/
theorem at_first_acc (h0 : t.val % 16 = 0) (h1 : cond0_1 (grid0.coords t) (lenTb c (grid0.coords t) (tbl m 0))) (h2 : ¬t.val % 16 = 15) :
    (outsAt0 m hO c t.val t.isLt).2.1 = stepA (BitVec.ofNat 32 (grid0.coords t 1).val) (lenTb c (grid0.coords t) (tbl m 0)) (iblk m hO c 0 t) (iblk m hO c 1 t) (iblk m hO c 2 t) (iblk m hO c 3 t) (iblk m hO c 4 t) (newM (iblk m hO c 0 t) (iblk m hO c 1 t) (iblk m hO c 5 t) (iblk m hO c 6 t) (iblk m hO c 7 t)) (newA (iblk m hO c 0 t) (iblk m hO c 1 t) (iblk m hO c 5 t) (iblk m hO c 6 t) (iblk m hO c 7 t)) :=
  (congrArg (fun o => o.2.1) (outsAt0_A m hO c t h0 h1 h2)).trans (first_acc c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0) (fun h => h2 ((hcond0_2 t).mp h)) h1)

/-- The maximum after a batch's first grid point. -/
theorem at_first_max (h0 : t.val % 16 = 0) (h1 : cond0_1 (grid0.coords t) (lenTb c (grid0.coords t) (tbl m 0))) (h2 : ¬t.val % 16 = 15) :
    (outsAt0 m hO c t.val t.isLt).2.2.1 = stepM (BitVec.ofNat 32 (grid0.coords t 1).val) (lenTb c (grid0.coords t) (tbl m 0)) (iblk m hO c 0 t) (iblk m hO c 1 t) (iblk m hO c 2 t) (iblk m hO c 3 t) (iblk m hO c 4 t) (newM (iblk m hO c 0 t) (iblk m hO c 1 t) (iblk m hO c 5 t) (iblk m hO c 6 t) (iblk m hO c 7 t)) :=
  (congrArg (fun o => o.2.2.1) (outsAt0_A m hO c t h0 h1 h2)).trans (first_max c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0) (fun h => h2 ((hcond0_2 t).mp h)) h1)

/-- The total weight after a batch's first grid point. -/
theorem at_first_sum (h0 : t.val % 16 = 0) (h1 : cond0_1 (grid0.coords t) (lenTb c (grid0.coords t) (tbl m 0))) (h2 : ¬t.val % 16 = 15) :
    (outsAt0 m hO c t.val t.isLt).2.2.2 = stepL (BitVec.ofNat 32 (grid0.coords t 1).val) (lenTb c (grid0.coords t) (tbl m 0)) (iblk m hO c 0 t) (iblk m hO c 1 t) (iblk m hO c 2 t) (iblk m hO c 3 t) (iblk m hO c 4 t) (newM (iblk m hO c 0 t) (iblk m hO c 1 t) (iblk m hO c 5 t) (iblk m hO c 6 t) (iblk m hO c 7 t)) (newL (iblk m hO c 0 t) (iblk m hO c 1 t) (iblk m hO c 5 t) (iblk m hO c 6 t) (iblk m hO c 7 t)) :=
  (congrArg (fun o => o.2.2.2) (outsAt0_A m hO c t h0 h1 h2)).trans (first_sum c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0) (fun h => h2 ((hcond0_2 t).mp h)) h1)

/-- The weighted sum after a grid point with a live chunk. -/
theorem at_mid_acc (h0 : ¬t.val % 16 = 0) (h1 : cond0_1 (grid0.coords t) (lenTb c (grid0.coords t) (tbl m 0))) (h2 : ¬t.val % 16 = 15) :
    (outsAt0 m hO c t.val t.isLt).2.1 = stepA (BitVec.ofNat 32 (grid0.coords t 1).val) (lenTb c (grid0.coords t) (tbl m 0)) (iblk m hO c 0 t) (iblk m hO c 1 t) (iblk m hO c 2 t) (iblk m hO c 3 t) (iblk m hO c 4 t) (outsAt0 m hO c (t.val - 1) (Nat.lt_of_le_of_lt (Nat.sub_le _ _) t.isLt)).2.2.1 (outsAt0 m hO c (t.val - 1) (Nat.lt_of_le_of_lt (Nat.sub_le _ _) t.isLt)).2.1 :=
  (congrArg (fun o => o.2.1) (outsAt0_C m hO c t h0 h1 h2)).trans (mid_acc c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1)

/-- The maximum after a grid point with a live chunk. -/
theorem at_mid_max (h0 : ¬t.val % 16 = 0) (h1 : cond0_1 (grid0.coords t) (lenTb c (grid0.coords t) (tbl m 0))) (h2 : ¬t.val % 16 = 15) :
    (outsAt0 m hO c t.val t.isLt).2.2.1 = stepM (BitVec.ofNat 32 (grid0.coords t 1).val) (lenTb c (grid0.coords t) (tbl m 0)) (iblk m hO c 0 t) (iblk m hO c 1 t) (iblk m hO c 2 t) (iblk m hO c 3 t) (iblk m hO c 4 t) (outsAt0 m hO c (t.val - 1) (Nat.lt_of_le_of_lt (Nat.sub_le _ _) t.isLt)).2.2.1 :=
  (congrArg (fun o => o.2.2.1) (outsAt0_C m hO c t h0 h1 h2)).trans (mid_max c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1)

/-- The total weight after a grid point with a live chunk. -/
theorem at_mid_sum (h0 : ¬t.val % 16 = 0) (h1 : cond0_1 (grid0.coords t) (lenTb c (grid0.coords t) (tbl m 0))) (h2 : ¬t.val % 16 = 15) :
    (outsAt0 m hO c t.val t.isLt).2.2.2 = stepL (BitVec.ofNat 32 (grid0.coords t 1).val) (lenTb c (grid0.coords t) (tbl m 0)) (iblk m hO c 0 t) (iblk m hO c 1 t) (iblk m hO c 2 t) (iblk m hO c 3 t) (iblk m hO c 4 t) (outsAt0 m hO c (t.val - 1) (Nat.lt_of_le_of_lt (Nat.sub_le _ _) t.isLt)).2.2.1 (outsAt0 m hO c (t.val - 1) (Nat.lt_of_le_of_lt (Nat.sub_le _ _) t.isLt)).2.2.2 :=
  (congrArg (fun o => o.2.2.2) (outsAt0_C m hO c t h0 h1 h2)).trans (mid_sum c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1)

/-- The weighted sum after a grid point whose chunk is past the length. -/
theorem at_skip_acc (h0 : ¬t.val % 16 = 0) (h1 : ¬cond0_1 (grid0.coords t) (lenTb c (grid0.coords t) (tbl m 0))) (h2 : ¬t.val % 16 = 15) :
    (outsAt0 m hO c t.val t.isLt).2.1 = (outsAt0 m hO c (t.val - 1) (Nat.lt_of_le_of_lt (Nat.sub_le _ _) t.isLt)).2.1 :=
  (congrArg (fun o => o.2.1) (outsAt0_D m hO c t h0 h1 h2)).trans (skip_acc c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1)

/-- The maximum after a grid point whose chunk is past the length. -/
theorem at_skip_max (h0 : ¬t.val % 16 = 0) (h1 : ¬cond0_1 (grid0.coords t) (lenTb c (grid0.coords t) (tbl m 0))) (h2 : ¬t.val % 16 = 15) :
    (outsAt0 m hO c t.val t.isLt).2.2.1 = (outsAt0 m hO c (t.val - 1) (Nat.lt_of_le_of_lt (Nat.sub_le _ _) t.isLt)).2.2.1 :=
  (congrArg (fun o => o.2.2.1) (outsAt0_D m hO c t h0 h1 h2)).trans (skip_max c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1)

/-- The total weight after a grid point whose chunk is past the length. -/
theorem at_skip_sum (h0 : ¬t.val % 16 = 0) (h1 : ¬cond0_1 (grid0.coords t) (lenTb c (grid0.coords t) (tbl m 0))) (h2 : ¬t.val % 16 = 15) :
    (outsAt0 m hO c t.val t.isLt).2.2.2 = (outsAt0 m hO c (t.val - 1) (Nat.lt_of_le_of_lt (Nat.sub_le _ _) t.isLt)).2.2.2 :=
  (congrArg (fun o => o.2.2.2) (outsAt0_D m hO c t h0 h1 h2)).trans (skip_sum c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1)

/-- The output of a batch's last grid point when its chunk is live. -/
theorem at_last (h0 : ¬t.val % 16 = 0) (h1 : cond0_1 (grid0.coords t) (lenTb c (grid0.coords t) (tbl m 0))) (h2 : t.val % 16 = 15) :
    (outsAt0 m hO c t.val t.isLt).1 = k0_pay7 (F := Ideal) (stepA (BitVec.ofNat 32 (grid0.coords t 1).val) (lenTb c (grid0.coords t) (tbl m 0)) (iblk m hO c 0 t) (iblk m hO c 1 t) (iblk m hO c 2 t) (iblk m hO c 3 t) (iblk m hO c 4 t) (outsAt0 m hO c (t.val - 1) (Nat.lt_of_le_of_lt (Nat.sub_le _ _) t.isLt)).2.2.1 (outsAt0 m hO c (t.val - 1) (Nat.lt_of_le_of_lt (Nat.sub_le _ _) t.isLt)).2.1) (col (stepL (BitVec.ofNat 32 (grid0.coords t 1).val) (lenTb c (grid0.coords t) (tbl m 0)) (iblk m hO c 0 t) (iblk m hO c 1 t) (iblk m hO c 2 t) (iblk m hO c 3 t) (iblk m hO c 4 t) (outsAt0 m hO c (t.val - 1) (Nat.lt_of_le_of_lt (Nat.sub_le _ _) t.isLt)).2.2.1 (outsAt0 m hO c (t.val - 1) (Nat.lt_of_le_of_lt (Nat.sub_le _ _) t.isLt)).2.2.2)) :=
  (congrArg (fun o => o.1) (outsAt0_E m hO c t h0 h1 h2)).trans (last_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1)

/-- The output of a batch's last grid point when its chunk is past the length. -/
theorem at_last_skip (h0 : ¬t.val % 16 = 0) (h1 : ¬cond0_1 (grid0.coords t) (lenTb c (grid0.coords t) (tbl m 0))) (h2 : t.val % 16 = 15) :
    (outsAt0 m hO c t.val t.isLt).1 = k0_pay7 (F := Ideal) (outsAt0 m hO c (t.val - 1) (Nat.lt_of_le_of_lt (Nat.sub_le _ _) t.isLt)).2.1 (col (outsAt0 m hO c (t.val - 1) (Nat.lt_of_le_of_lt (Nat.sub_le _ _) t.isLt)).2.2.2) :=
  (congrArg (fun o => o.1) (outsAt0_F m hO c t h0 h1 h2)).trans (last_out_skip c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1)

end Cert.KernelIdeal.Value
end
-- ==== Proof.Invariant.lean ====
/-
  After every grid point the kernel's scratch summarises the chunks of its batch read so far, and the last grid point of a
  batch writes the batch's output.
-/
module
public import proofs.«01_k».proof.Proof.KernelBatch
public import proofs.«01_k».proof.Proof.PointCases

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Length Cert.Attn
variable (m : (ℓ : Loc nD τ sig) → Buf (Elt Ideal) ℓ) (hO : Gen.Ok m) (c : Dev nD)

/-- The length the kernel body reads is the table's entry of its batch. -/
theorem lenTb_eq (t : Fin (cfgM m hO).N) (b : Fin 8) (hb : t.val / 16 = b.val) :
    lenTb c (grid0.coords t) (tbl m 0) = m ((c : Thread nD τ).loc main_arg5) (ix1 b) := by
  obtain rfl : c = 0 := Subsingleton.elim _ _
  exact lenAt_eq m t b hb

/-- A chunk is joined exactly when it starts before the length. -/
theorem live_iff (t : Fin (cfgM m hO).N) (b : Fin 8) (hb : t.val / 16 = b.val)
    (ha : Admissible (m ((c : Thread nD τ).loc main_arg5) (ix1 b))) :
    cond0_1 (grid0.coords t) (lenTb c (grid0.coords t) (tbl m 0)) ↔ 1024 * (t.val % 16) < (batch m c b).len := by
  have hj : t.val % 16 < 16 := by omega
  rw [lenTb_eq m hO c t b hb]
  show Scalar.cmpi .ne (Scalar.extui (Scalar.cmpi .slt (BitVec.ofNat 32 (grid0.coords t 1).val) (Scalar.divsi (Scalar.addi
    (m ((c : Thread nD τ).loc main_arg5) (ix1 b)) 1023#32) 1024#32))) 0#32 = 1#1 ↔ _
  rw [(coords t).2]
  exact live_word ha hj

variable (b : Fin 8) (ha : Admissible (m ((c : Thread nD τ).loc main_arg5) (ix1 b)))

/-- The scratch after a grid point summarises the chunks up to its own. -/
def Inv (o : Vec Ideal S1x512x512 .bf16 × Vec Ideal S512x512 .f32 × Vec Ideal S512x128 .f32 × Vec Ideal S512x128 .f32) (n : ℕ) : Prop :=
  ∀ r d : Fin 512, Softmax.Summary Consts.ρ ((batch m c b).score r) ((batch m c b).value d) n (o.2.2.1 (ix2 r 0)) (o.2.2.2 (ix2 r 0)) (o.2.1 (ix2 r d))

include ha in
/-- The first grid point of a batch. -/
theorem inv_first (t : Fin (cfgM m hO).N) (hb : t.val / 16 = b.val) (h0 : t.val % 16 = 0) :
    Inv m c b (outsAt0 m hO c t.val t.isLt) (128 + 1024 * (t.val % 16 + 1)) := by
  have h2 : ¬t.val % 16 = 15 := by omega
  have hl : 1024 * (t.val % 16) < (batch m c b).len := by
    have h := ha.1
    show _ < (m ((c : Thread nD τ).loc main_arg5) (ix1 b)).toNat
    omega
  have h1 := (live_iff m hO c t b hb ha).mpr hl
  intro r d
  have e := lenTb_eq m hO c t b hb
  have hN := newBlocks m hO c t b hb
  have hL := liveBlocks m hO c t b hb _ e ha hl
  have h := step_batch hN hL (v := lenTb c (grid0.coords t) (tbl m 0)) (e.symm ▸ ha) (congrArg BitVec.toNat e)
    (w := BitVec.ofNat 32 (grid0.coords t 1).val) (congrArg (BitVec.ofNat 32) (coords t).2) _ _ _ r d
    (by simpa only [h0] using new_batch hN r d)
  have e0 := at_first_acc m hO c t h0 h1 h2
  have e1 := at_first_max m hO c t h0 h1 h2
  have e2 := at_first_sum m hO c t h0 h1 h2
  rw [e0, e1, e2]
  exact h

include ha in
/-- A later grid point of a batch, not its last. -/
theorem inv_mid (t : Fin (cfgM m hO).N) (hb : t.val / 16 = b.val) (h0 : ¬t.val % 16 = 0) (h2 : ¬t.val % 16 = 15)
    (hp : Inv m c b (outsAt0 m hO c (t.val - 1) (Nat.lt_of_le_of_lt (Nat.sub_le _ _) t.isLt)) (128 + 1024 * (t.val % 16))) :
    Inv m c b (outsAt0 m hO c t.val t.isLt) (128 + 1024 * (t.val % 16 + 1)) := by
  have hN := newBlocks m hO c t b hb
  by_cases h1 : cond0_1 (grid0.coords t) (lenTb c (grid0.coords t) (tbl m 0))
  · have hl := (live_iff m hO c t b hb ha).mp h1
    intro r d
    have e := lenTb_eq m hO c t b hb
    have hL := liveBlocks m hO c t b hb _ e ha hl
    have h := step_batch hN hL (v := lenTb c (grid0.coords t) (tbl m 0)) (e.symm ▸ ha) (congrArg BitVec.toNat e)
      (w := BitVec.ofNat 32 (grid0.coords t 1).val) (congrArg (BitVec.ofNat 32) (coords t).2) _ _ _ r d (hp r d)
    have e0 := at_mid_acc m hO c t h0 h1 h2
    have e1 := at_mid_max m hO c t h0 h1 h2
    have e2 := at_mid_sum m hO c t h0 h1 h2
    rw [e0, e1, e2]
    exact h
  · have hl := fun hl => h1 ((live_iff m hO c t b hb ha).mpr hl)
    intro r d
    have h := skip_batch (j := ⟨t.val % 16, by omega⟩) r d (Nat.le_of_not_lt hl) (hp r d)
    have e0 := at_skip_acc m hO c t h0 h1 h2
    have e1 := at_skip_max m hO c t h0 h1 h2
    have e2 := at_skip_sum m hO c t h0 h1 h2
    rw [e0, e1, e2]
    exact h

include ha in
/-- The last grid point of a batch writes the batch's output. -/
theorem out_last (t : Fin (cfgM m hO).N) (hb : t.val / 16 = b.val) (h0 : ¬t.val % 16 = 0) (h2 : t.val % 16 = 15)
    (hp : Inv m c b (outsAt0 m hO c (t.val - 1) (Nat.lt_of_le_of_lt (Nat.sub_le _ _) t.isLt)) (128 + 1024 * (t.val % 16))) (r d : Fin 512) :
    (outsAt0 m hO c t.val t.isLt).1 (ix3 0 r d) = (batch m c b).out r d := by
  have hN := newBlocks m hO c t b hb
  have h16 : 128 + 1024 * (t.val % 16 + 1) = 128 + 16384 := by omega
  by_cases h1 : cond0_1 (grid0.coords t) (lenTb c (grid0.coords t) (tbl m 0))
  · have hl := (live_iff m hO c t b hb ha).mp h1
    have e := lenTb_eq m hO c t b hb
    have hL := liveBlocks m hO c t b hb _ e ha hl
    have h := step_batch hN hL (v := lenTb c (grid0.coords t) (tbl m 0)) (e.symm ▸ ha) (congrArg BitVec.toNat e)
      (w := BitVec.ofNat 32 (grid0.coords t 1).val) (congrArg (BitVec.ofNat 32) (coords t).2) _ _ _ r d (hp r d)
    simp only [h16] at h
    have e0 := at_last m hO c t h0 h1 h2
    rw [e0]
    exact out_batch _ _ r d h
  · have hl := fun hl => h1 ((live_iff m hO c t b hb ha).mpr hl)
    have h := skip_batch (j := ⟨t.val % 16, by omega⟩) r d (Nat.le_of_not_lt hl) (hp r d)
    simp only [h16] at h
    have e0 := at_last_skip m hO c t h0 h1 h2
    rw [e0]
    exact out_batch _ _ r d h

include ha in
/-- The invariant, by induction on the grid point within the batch. -/
theorem inv (j : ℕ) (hj : j < 15) (t : Fin (cfgM m hO).N) (ht : t.val = 16 * b.val + j) :
    Inv m c b (outsAt0 m hO c t.val t.isLt) (128 + 1024 * (j + 1)) := by
  induction j generalizing t with
  | zero =>
    have h := inv_first m hO c b ha t (by omega) (by omega)
    rwa [show t.val % 16 = 0 by omega] at h
  | succ j ih =>
    have hp := ih (by omega) ⟨t.val - 1, Nat.lt_of_le_of_lt (Nat.sub_le _ _) t.isLt⟩ (by simp only; omega)
    have h16 : t.val % 16 = j + 1 := by omega
    have h := inv_mid m hO c b ha t (by omega) (by omega) (by omega) (by rw [h16]; exact hp)
    rwa [h16] at h

include ha in
/-- What a batch's last grid point writes is the batch's output. -/
theorem out_at (t : Fin (cfgM m hO).N) (ht : t.val = 16 * b.val + 15) (r d : Fin 512) :
    (outsAt0 m hO c t.val t.isLt).1 (ix3 0 r d) = (batch m c b).out r d := by
  have hp := inv m hO c b ha 14 (by omega) ⟨t.val - 1, Nat.lt_of_le_of_lt (Nat.sub_le _ _) t.isLt⟩ (by simp only; omega)
  exact out_last m hO c b ha t (by omega) (by omega) (by omega) (by rw [show t.val % 16 = 14 + 1 by omega]; exact hp) r d

end Cert.KernelIdeal.Value
end
-- ==== Proof.KernelValue.lean ====
/-
  The kernel's result array: every batch's output at every row and column.
-/
module
public import proofs.«01_k».proof.Proof.Invariant

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Length Cert.Attn
variable (m : (ℓ : Loc nD τ sig) → Buf (Elt Ideal) ℓ) (hO : Gen.Ok m) (c : Dev nD)

/-- The result array: every batch's output. -/
abbrev result : Buf (Elt Ideal) ((c : Thread nD τ).loc main_v5) := fun i => (batch m c (i 0)).out (i 1) (i 2)

/-- What a grid point writes, at an index of its block. -/
theorem out_cell (hA : ∀ b : Fin 8, Admissible (m ((c : Thread nD τ).loc main_arg5) (ix1 b))) (t : Fin (cfgM m hO).N)
    (ht : t.val % 16 = 15) (y : S1x512x512.Idx) (b : Fin 8) (r d : Fin 512) (hb : b.val = t.val / 16) (hr : r.val = (y 1).val) (hd : d.val = (y 2).val) :
    (outsAt0 m hO c t.val t.isLt).1 y = (batch m c b).out r d := by
  have e : y = ix3 0 r d := by
    funext a
    fin_cases a
    · exact Subsingleton.elim (α := Fin 1) _ _
    · exact Fin.ext hr.symm
    · exact Fin.ext hd.symm
  rw [e]
  exact out_at m hO c b (hA b) t (by omega) r d

/-- The result array after the run. -/
theorem final (hA : ∀ b : Fin 8, Admissible (m ((c : Thread nD τ).loc main_arg5) (ix1 b))) :
    (dats m hO 0 c).arrAt 8 (cfgM m hO).N = result m c := by
  refine (dats m hO 0 c).arrAt_eq_of_emb 8 (result m c) ?_ ?_
  · intro t hf (y : S1x512x512.Idx)
    have ht := (flush0_8 (adm m hO) t).mp hf
    have e := idx8 m hO t
    blk_simp
    rw [after0_8]
    refine out_cell m hO c hA t ht _ _ _ _ ?_ ?_ ?_
    · have hy : (y 0 : ℕ) < 1 := (y 0).isLt
      exact (by omega : ∀ z : ℕ, z = t.val / 16 → z * 1 + 1 * (y 0 : ℕ) = t.val / 16) _ (congrFun e 0)
    · exact (by omega : ∀ z : ℕ, z = 0 → (y 1 : ℕ) = z * 512 + 1 * (y 1 : ℕ)) _ (congrFun e 1) |>.symm
    · exact (by omega : ∀ z : ℕ, z = 0 → (y 2 : ℕ) = z * 512 + 1 * (y 2 : ℕ)) _ (congrFun e 2) |>.symm
  · intro (i : S8x512x512.Idx)
    have h0 : (i 0 : ℕ) < 8 := (i 0).isLt
    have h1 : (i 1 : ℕ) < 512 := (i 1).isLt
    have h2 : (i 2 : ℕ) < 512 := (i 2).isLt
    let t : Fin (cfgM m hO).N := ⟨16 * (i 0 : ℕ) + 15, lt_of_lt_of_eq (show 16 * (i 0 : ℕ) + 15 < 128 by omega) (show (cfgM m hO).N = 128 from N_0).symm⟩
    have e := idx8 m hO t
    have ht : t.val / 16 = (i 0 : ℕ) := by show (16 * (i 0 : ℕ) + 15) / 16 = _; omega
    refine ⟨t, (flush0_8 (adm m hO) t).mpr (by show (16 * (i 0 : ℕ) + 15) % 16 = 15; omega), ?_⟩
    refine (congrArg (i ∈ ·) (View.set_slice_whole main_v5 (((cfgM m hO).win 8).rect t))).mpr (Rect.mem_set_unit.mpr fun a => ?_)
    match a with
    | ⟨0, _⟩ =>
      exact (by omega : ∀ z : ℕ, z = (i 0 : ℕ) → z * 1 ≤ (i 0 : ℕ) ∧ (i 0 : ℕ) < z * 1 + 1) _ ((congrFun e 0).trans ht)
    | ⟨1, _⟩ =>
      exact (by omega : ∀ z : ℕ, z = 0 → z * 512 ≤ (i 1 : ℕ) ∧ (i 1 : ℕ) < z * 512 + 512) _ (congrFun e 1)
    | ⟨2, _⟩ =>
      exact (by omega : ∀ z : ℕ, z = 0 → z * 512 ≤ (i 2 : ℕ) ∧ (i 2 : ℕ) < z * 512 + 512) _ (congrFun e 2)

end Cert.KernelIdeal.Value
end
-- ==== Proof.RefKeys.lean ====
/-
  The reference's dequantised latents, its queries and its keys, entry by entry, from the arguments.
-/
module
public import proofs.«01_k».proof.Proof.Batch
public import proofs.«01_k».proof.Proof.Gen.ReferenceIdeal.Read

@[expose] public section
set_option maxRecDepth 16384
noncomputable section
open Idealize.ShloMosaic Idealize.ShloMosaic.TcCoe Idealize.SL.Sem
open Idealize.ShloMosaic.Pipeline (Dat)
namespace Cert.ReferenceIdeal.Read
open Cert.ReferenceIdeal Cert.ReferenceIdeal.Gen Cert.Attn

/-- A dequantised cache entry: the code times its block's scale. -/
theorem cache_entry (x3 : (⟨S8x16384x4, .f32⟩ : BufTy).Contents (Elt Ideal)) (r0 : (⟨S8x16384x512, .bf16⟩ : BufTy).Contents (Elt Ideal))
    (b : Fin 8) (p : Fin 16384) (k : Fin 512) :
    val_main_v8 (F := Ideal) x3 r0 (ix3 b p k)
      = (r0 (ix3 b p k) : EReal) * (x3 (ix3 b p (⟨k.val / 128, by omega⟩ : Fin 4)) : EReal) := by
  have e8 : idx_main_v8 (ix3 b p k) = ix4 b p (⟨k.val / 128, by omega⟩ : Fin 4) (⟨k.val % 128, by omega⟩ : Fin 128) :=
    funext fun a => match a with
      | ⟨0, _⟩ => Fin.ext (by show ((b.val * 16384 + p.val) * 512 + k.val) / 8388608 = b.val; omega)
      | ⟨1, _⟩ => Fin.ext (by show ((b.val * 16384 + p.val) * 512 + k.val) / 512 % 16384 = p.val; omega)
      | ⟨2, _⟩ => Fin.ext (by show ((b.val * 16384 + p.val) * 512 + k.val) / 128 % 4 = k.val / 128; omega)
      | ⟨3, _⟩ => Fin.ext (by show ((b.val * 16384 + p.val) * 512 + k.val) % 128 = k.val % 128; omega)
  rw [val_main_v8_apply, e8, val_main_v7_apply, val_main_v3_apply, val_main_v6_apply, val_main_v5_apply, val_main_v4_apply]
  refine congrArg₂ (fun x y : EReal => x * y) (congrArg r0 (funext fun a => match a with
      | ⟨0, _⟩ => Fin.ext (by show (((b.val * 16384 + p.val) * 4 + k.val / 128) * 128 + k.val % 128) / 8388608 = b.val; omega)
      | ⟨1, _⟩ => Fin.ext (by show (((b.val * 16384 + p.val) * 4 + k.val / 128) * 128 + k.val % 128) / 512 % 16384 = p.val; omega)
      | ⟨2, _⟩ => Fin.ext (by show (((b.val * 16384 + p.val) * 4 + k.val / 128) * 128 + k.val % 128) % 512 = k.val; omega)))
    (congrArg x3 (funext fun a => match a with | ⟨0, _⟩ => rfl | ⟨1, _⟩ => rfl | ⟨2, _⟩ => rfl))

/-- A dequantised entry of a new token. -/
theorem new_entry (x7 : (⟨S8x4x4, .f32⟩ : BufTy).Contents (Elt Ideal)) (r1 : (⟨S8x4x512, .bf16⟩ : BufTy).Contents (Elt Ideal))
    (b : Fin 8) (p : Fin 4) (k : Fin 512) :
    val_main_v14 (F := Ideal) x7 r1 (ix3 b p k)
      = (r1 (ix3 b p k) : EReal) * (x7 (ix3 b p (⟨k.val / 128, by omega⟩ : Fin 4)) : EReal) := by
  have e8 : idx_main_v14 (ix3 b p k) = ix4 b p (⟨k.val / 128, by omega⟩ : Fin 4) (⟨k.val % 128, by omega⟩ : Fin 128) :=
    funext fun a => match a with
      | ⟨0, _⟩ => Fin.ext (by show ((b.val * 4 + p.val) * 512 + k.val) / 2048 = b.val; omega)
      | ⟨1, _⟩ => Fin.ext (by show ((b.val * 4 + p.val) * 512 + k.val) / 512 % 4 = p.val; omega)
      | ⟨2, _⟩ => Fin.ext (by show ((b.val * 4 + p.val) * 512 + k.val) / 128 % 4 = k.val / 128; omega)
      | ⟨3, _⟩ => Fin.ext (by show ((b.val * 4 + p.val) * 512 + k.val) % 128 = k.val % 128; omega)
  rw [val_main_v14_apply, e8, val_main_v13_apply, val_main_v9_apply, val_main_v12_apply, val_main_v11_apply, val_main_v10_apply]
  refine congrArg₂ (fun x y : EReal => x * y) (congrArg r1 (funext fun a => match a with
      | ⟨0, _⟩ => Fin.ext (by show (((b.val * 4 + p.val) * 4 + k.val / 128) * 128 + k.val % 128) / 2048 = b.val; omega)
      | ⟨1, _⟩ => Fin.ext (by show (((b.val * 4 + p.val) * 4 + k.val / 128) * 128 + k.val % 128) / 512 % 4 = p.val; omega)
      | ⟨2, _⟩ => Fin.ext (by show (((b.val * 4 + p.val) * 4 + k.val / 128) * 128 + k.val % 128) % 512 = k.val; omega)))
    (congrArg x7 (funext fun a => match a with | ⟨0, _⟩ => rfl | ⟨1, _⟩ => rfl | ⟨2, _⟩ => rfl))

/-- A latent coordinate of a query. -/
theorem query_latent (x0 : (⟨S8x4x65536, .bf16⟩ : BufTy).Contents (Elt Ideal)) (x1 : (⟨S8x4x128x64, .bf16⟩ : BufTy).Contents (Elt Ideal))
    (b : Fin 8) (s : Fin 4) (h : Fin 128) (k : Fin 512) :
    val_main_v2 (F := Ideal) x0 x1 (ix4 b s h (⟨k.val, by omega⟩ : Fin 576)) = x0 (ix3 b s (⟨h.val * 512 + k.val, by omega⟩ : Fin 65536)) := by
  unfold val_main_v2
  rw [concatenate_pair_apply_left (t := S8x4x128x576) (s₁ := S8x4x128x512) (s₂ := S8x4x128x64) 3 (val_main_v1 (F := Ideal) x0) x1 concatenates_S8x4x128x512_S8x4x128x64_S8x4x128x576_d3 (ix4 b s h (⟨k.val, by omega⟩ : Fin 576)) rfl (ix4 b s h k) (fun a => match a with | ⟨0, _⟩ => rfl | ⟨1, _⟩ => rfl | ⟨2, _⟩ => rfl | ⟨3, _⟩ => rfl),
    val_main_v1_apply]
  exact congrArg x0 (funext fun a => match a with
    | ⟨0, _⟩ => Fin.ext (by show (((b.val * 4 + s.val) * 128 + h.val) * 512 + k.val) / 262144 = b.val; omega)
    | ⟨1, _⟩ => Fin.ext (by show (((b.val * 4 + s.val) * 128 + h.val) * 512 + k.val) / 65536 % 4 = s.val; omega)
    | ⟨2, _⟩ => Fin.ext (by show (((b.val * 4 + s.val) * 128 + h.val) * 512 + k.val) % 65536 = h.val * 512 + k.val; omega))

/-- A rotary coordinate of a query. -/
theorem query_rope (x0 : (⟨S8x4x65536, .bf16⟩ : BufTy).Contents (Elt Ideal)) (x1 : (⟨S8x4x128x64, .bf16⟩ : BufTy).Contents (Elt Ideal))
    (b : Fin 8) (s : Fin 4) (h : Fin 128) (k : Fin 64) :
    val_main_v2 (F := Ideal) x0 x1 (ix4 b s h (⟨512 + k.val, by omega⟩ : Fin 576)) = x1 (ix4 b s h k) := by
  unfold val_main_v2
  exact concatenate_pair_apply_right (t := S8x4x128x576) (s₁ := S8x4x128x512) (s₂ := S8x4x128x64) 3 (val_main_v1 (F := Ideal) x0) x1 concatenates_S8x4x128x512_S8x4x128x64_S8x4x128x576_d3 (ix4 b s h (⟨512 + k.val, by omega⟩ : Fin 576)) rfl rfl (ix4 b s h k)
    (fun a => match a with | ⟨0, _⟩ => fun _ => rfl | ⟨1, _⟩ => fun _ => rfl | ⟨2, _⟩ => fun _ => rfl | ⟨3, _⟩ => fun n => absurd rfl n)
    (Nat.add_comm k.val 512)

/-- A latent coordinate of a cache key. -/
theorem cache_latent (x3 : (⟨S8x16384x4, .f32⟩ : BufTy).Contents (Elt Ideal)) (x4 : (⟨S8x16384x64, .bf16⟩ : BufTy).Contents (Elt Ideal))
    (r0 : (⟨S8x16384x512, .bf16⟩ : BufTy).Contents (Elt Ideal)) (b : Fin 8) (p : Fin 16384) (k : Fin 512) :
    val_main_v15 (F := Ideal) x3 x4 r0 (ix3 b p (⟨k.val, by omega⟩ : Fin 576)) = val_main_v8 (F := Ideal) x3 r0 (ix3 b p k) := by
  unfold val_main_v15
  exact concatenate_pair_apply_left (t := S8x16384x576) (s₁ := S8x16384x512) (s₂ := S8x16384x64) 2 (val_main_v8 (F := Ideal) x3 r0) x4 concatenates_S8x16384x512_S8x16384x64_S8x16384x576_d2 (ix3 b p (⟨k.val, by omega⟩ : Fin 576)) rfl (ix3 b p k) (fun a => match a with | ⟨0, _⟩ => rfl | ⟨1, _⟩ => rfl | ⟨2, _⟩ => rfl)

/-- A rotary coordinate of a cache key. -/
theorem cache_rope (x3 : (⟨S8x16384x4, .f32⟩ : BufTy).Contents (Elt Ideal)) (x4 : (⟨S8x16384x64, .bf16⟩ : BufTy).Contents (Elt Ideal))
    (r0 : (⟨S8x16384x512, .bf16⟩ : BufTy).Contents (Elt Ideal)) (b : Fin 8) (p : Fin 16384) (k : Fin 64) :
    val_main_v15 (F := Ideal) x3 x4 r0 (ix3 b p (⟨512 + k.val, by omega⟩ : Fin 576)) = x4 (ix3 b p k) := by
  unfold val_main_v15
  exact concatenate_pair_apply_right (t := S8x16384x576) (s₁ := S8x16384x512) (s₂ := S8x16384x64) 2 (val_main_v8 (F := Ideal) x3 r0) x4 concatenates_S8x16384x512_S8x16384x64_S8x16384x576_d2 (ix3 b p (⟨512 + k.val, by omega⟩ : Fin 576)) rfl rfl (ix3 b p k)
    (fun a => match a with | ⟨0, _⟩ => fun _ => rfl | ⟨1, _⟩ => fun _ => rfl | ⟨2, _⟩ => fun n => absurd rfl n)
    (Nat.add_comm k.val 512)

/-- A latent coordinate of a new key. -/
theorem new_latent (x7 : (⟨S8x4x4, .f32⟩ : BufTy).Contents (Elt Ideal)) (x8 : (⟨S8x4x64, .bf16⟩ : BufTy).Contents (Elt Ideal))
    (r1 : (⟨S8x4x512, .bf16⟩ : BufTy).Contents (Elt Ideal)) (b : Fin 8) (p : Fin 4) (k : Fin 512) :
    val_main_v16 (F := Ideal) x7 x8 r1 (ix3 b p (⟨k.val, by omega⟩ : Fin 576)) = val_main_v14 (F := Ideal) x7 r1 (ix3 b p k) := by
  unfold val_main_v16
  exact concatenate_pair_apply_left (t := S8x4x576) (s₁ := S8x4x512) (s₂ := S8x4x64) 2 (val_main_v14 (F := Ideal) x7 r1) x8 concatenates_S8x4x512_S8x4x64_S8x4x576_d2 (ix3 b p (⟨k.val, by omega⟩ : Fin 576)) rfl (ix3 b p k) (fun a => match a with | ⟨0, _⟩ => rfl | ⟨1, _⟩ => rfl | ⟨2, _⟩ => rfl)

/-- A rotary coordinate of a new key. -/
theorem new_rope (x7 : (⟨S8x4x4, .f32⟩ : BufTy).Contents (Elt Ideal)) (x8 : (⟨S8x4x64, .bf16⟩ : BufTy).Contents (Elt Ideal))
    (r1 : (⟨S8x4x512, .bf16⟩ : BufTy).Contents (Elt Ideal)) (b : Fin 8) (p : Fin 4) (k : Fin 64) :
    val_main_v16 (F := Ideal) x7 x8 r1 (ix3 b p (⟨512 + k.val, by omega⟩ : Fin 576)) = x8 (ix3 b p k) := by
  unfold val_main_v16
  exact concatenate_pair_apply_right (t := S8x4x576) (s₁ := S8x4x512) (s₂ := S8x4x64) 2 (val_main_v14 (F := Ideal) x7 r1) x8 concatenates_S8x4x512_S8x4x64_S8x4x576_d2 (ix3 b p (⟨512 + k.val, by omega⟩ : Fin 576)) rfl rfl (ix3 b p k)
    (fun a => match a with | ⟨0, _⟩ => fun _ => rfl | ⟨1, _⟩ => fun _ => rfl | ⟨2, _⟩ => fun n => absurd rfl n)
    (Nat.add_comm k.val 512)

end Cert.ReferenceIdeal.Read
end
-- ==== Proof.BatchSums.lean ====
/-
  A batch's largest score and its sums, split into the four new tokens and the cache: the padding contributes nothing.
-/
module

public import proofs.«01_k».proof.Proof.Batch

@[expose] public section

noncomputable section

namespace Cert.Attn

open Idealize.ShloMosaic Cert.Softmax

variable (B : Batch)

/-- The row of a position's head. -/
def row (s : Fin 4) (h : Fin 128) : Fin 512 := ⟨s.val * 128 + h.val, by omega⟩

/-- A row's position. -/
theorem row_div (s : Fin 4) (h : Fin 128) : (row s h).val / 128 = s.val := by show (s.val * 128 + h.val) / 128 = s.val; omega

/-- A row's head. -/
theorem row_mod (s : Fin 4) (h : Fin 128) : (row s h).val % 128 = h.val := by show (s.val * 128 + h.val) % 128 = h.val; omega

/-- A padding token is masked. -/
theorem Batch.score_pad (r : Fin 512) (i : Fin 124) : B.score r (4 + i.val) = ⊥ := by
  unfold Batch.score
  rw [if_pos (by omega), dif_neg (by omega)]

/-- A new token's masked score. -/
theorem Batch.score_four (r : Fin 512) (i : Fin 4) : B.score r i.val = if i.val ≤ r.val / 128 then B.newScore r i else ⊥ := by
  unfold Batch.score
  rw [if_pos (by omega), dif_pos i.isLt]

/-- A new token's value. -/
theorem Batch.value_four (d : Fin 512) (i : Fin 4) : B.value d i.val = B.nk i d := by
  unfold Batch.value
  rw [if_pos (by omega), dif_pos i.isLt]

/-- A sum over every token whose padding terms vanish. -/
theorem sum_tokens (f : ℕ → EReal) (hf : ∀ i : Fin 124, f (4 + i.val) = 0) :
    ∑ i ∈ Finset.range (128 + 16384), f i = ∑ p : Fin 16384, f (128 + p.val) + ∑ i : Fin 4, f i.val := by
  rw [sum_range_add' f 128 16384, sum_range_add' f 4 124, Finset.sum_eq_zero (s := (Finset.univ : Finset (Fin 124))) (fun i _ => hf i), add_zero, add_comm,
    Finset.sum_range]

/-- The largest masked score is the larger of the cache's and the new tokens'. -/
theorem Batch.top_split (r : Fin 512) :
    B.top r = max (Finset.univ.sup fun p : Fin 16384 => B.score r (128 + p.val)) (Finset.univ.sup fun i : Fin 4 => B.score r i.val) := by
  have h0 : (Finset.univ.sup fun i : Fin 124 => B.score r (4 + i.val)) = ⊥ := by
    rw [Finset.sup_eq_bot_iff]; exact fun i _ => B.score_pad r i
  have h1 : (Finset.range 4).sup (B.score r) = Finset.univ.sup fun i : Fin 4 => B.score r i.val := by
    have e := sup_range_add (B.score r) 0 4
    simp only [Finset.range_zero, Finset.sup_empty, zero_add, max_bot_left] at e
    exact e
  unfold Batch.top
  rw [sup_range_add (B.score r) 128 16384, sup_range_add (B.score r) 4 124, h0, max_bot_right, h1, max_comm]

/-- A token's score is at most the largest. -/
theorem Batch.score_le_top (r : Fin 512) (i : ℕ) (hi : i < 128 + 16384) : B.score r i ≤ B.top r :=
  Finset.le_sup (f := B.score r) (Finset.mem_range.mpr hi)

end Cert.Attn

end
-- ==== Proof.RefScores.lean ====
/-
  The reference's masked scores: a token's score in the batch, times the reciprocal root of 192.
-/
module
public import proofs.«01_k».proof.Proof.RefKeys
public import proofs.«01_k».proof.Proof.BatchSums
public import proofs.«01_k».proof.Proof.Length
public import Idealize.ShloMosaic.Lib.WordCmp

@[expose] public section
set_option maxRecDepth 16384
noncomputable section
open Idealize.ShloMosaic Idealize.ShloMosaic.TcCoe Idealize.SL.Sem
open Cert.ReferenceIdeal Cert.ReferenceIdeal.Gen Cert.Attn
namespace Cert.ReferenceIdeal.Read
open Cert.Length
variable (x0 : (⟨S8x4x65536, .bf16⟩ : BufTy).Contents (Elt Ideal))
  (x1 : (⟨S8x4x128x64, .bf16⟩ : BufTy).Contents (Elt Ideal))
  (x3 : (⟨S8x16384x4, .f32⟩ : BufTy).Contents (Elt Ideal))
  (x4 : (⟨S8x16384x64, .bf16⟩ : BufTy).Contents (Elt Ideal))
  (x5 : (⟨S8, .i32⟩ : BufTy).Contents (Elt Ideal))
  (x7 : (⟨S8x4x4, .f32⟩ : BufTy).Contents (Elt Ideal))
  (x8 : (⟨S8x4x64, .bf16⟩ : BufTy).Contents (Elt Ideal))
  (r0 : (⟨S8x16384x512, .bf16⟩ : BufTy).Contents (Elt Ideal))
  (r1 : (⟨S8x4x512, .bf16⟩ : BufTy).Contents (Elt Ideal)) (b : Fin 8)

/-- The batch the reference computes on, its codes already decoded. -/
abbrev refBatch : Batch := batchOf x0 x1 r0 x3 x4 x5 r1 x7 x8 b

/-- The scale of the scores. -/
abbrev σ : ℝ := (Real.sqrt 192)⁻¹

/-- The product of a query with a cache key. -/
theorem cache_dot (s : Fin 4) (h : Fin 128) (p : Fin 16384) :
    val_main_v18 (F := Ideal) x0 x1 x3 x4 r0 (ix4 b s h p) = (refBatch x0 x1 x3 x4 x5 x7 x8 r0 r1 b).cacheScore (row s h) p := by
  rw [val_main_v18_apply]
  have el : ∀ k : Fin 576, lidx_main_v18 (ix4 b s h p) k = ix4 b s h k := fun k => funext fun a => match a with
    | ⟨0, _⟩ => rfl | ⟨1, _⟩ => rfl | ⟨2, _⟩ => rfl | ⟨3, _⟩ => rfl
  have er : ∀ k : Fin 576, ridx_main_v18 (ix4 b s h p) k = ix3 b p k := fun k => funext fun a => match a with
    | ⟨0, _⟩ => rfl | ⟨1, _⟩ => rfl | ⟨2, _⟩ => rfl
  simp only [el, er]
  refine (Fin.sum_univ_add (a := 512) (b := 64) (fun k : Fin 576 => val_main_v2 (F := Ideal) x0 x1 (ix4 b s h k) * val_main_v15 (F := Ideal) x3 x4 r0 (ix3 b p k))).trans ?_
  refine congrArg₂ (· + ·) (Finset.sum_congr rfl fun k _ => congrArg₂ (fun x y : EReal => x * y) ?_ ?_)
    (Finset.sum_congr rfl fun k _ => congrArg₂ (fun x y : EReal => x * y) ?_ ?_)
  · refine (query_latent x0 x1 b s h k).trans (congrArg x0 (funext fun a => match a with
      | ⟨0, _⟩ => rfl
      | ⟨1, _⟩ => Fin.ext (row_div s h).symm
      | ⟨2, _⟩ => Fin.ext (congrArg (· * 512 + k.val) (row_mod s h).symm)))
  · exact (cache_latent x3 x4 r0 b p k).trans (cache_entry x3 r0 b p k)
  · refine (query_rope x0 x1 b s h k).trans (congrArg x1 (funext fun a => match a with
      | ⟨0, _⟩ => rfl
      | ⟨1, _⟩ => Fin.ext (row_div s h).symm
      | ⟨2, _⟩ => Fin.ext (row_mod s h).symm
      | ⟨3, _⟩ => rfl))
  · exact cache_rope x3 x4 r0 b p k

/-- The product of a query with a new key. -/
theorem new_dot (s : Fin 4) (h : Fin 128) (p : Fin 4) :
    val_main_v21 (F := Ideal) x0 x1 x7 x8 r1 (ix4 b s h p) = (refBatch x0 x1 x3 x4 x5 x7 x8 r0 r1 b).newScore (row s h) p := by
  rw [val_main_v21_apply]
  have el : ∀ k : Fin 576, lidx_main_v21 (ix4 b s h p) k = ix4 b s h k := fun k => funext fun a => match a with
    | ⟨0, _⟩ => rfl | ⟨1, _⟩ => rfl | ⟨2, _⟩ => rfl | ⟨3, _⟩ => rfl
  have er : ∀ k : Fin 576, ridx_main_v21 (ix4 b s h p) k = ix3 b p k := fun k => funext fun a => match a with
    | ⟨0, _⟩ => rfl | ⟨1, _⟩ => rfl | ⟨2, _⟩ => rfl
  simp only [el, er]
  refine (Fin.sum_univ_add (a := 512) (b := 64) (fun k : Fin 576 => val_main_v2 (F := Ideal) x0 x1 (ix4 b s h k) * val_main_v16 (F := Ideal) x7 x8 r1 (ix3 b p k))).trans ?_
  refine congrArg₂ (· + ·) (Finset.sum_congr rfl fun k _ => congrArg₂ (fun x y : EReal => x * y) ?_ ?_)
    (Finset.sum_congr rfl fun k _ => congrArg₂ (fun x y : EReal => x * y) ?_ ?_)
  · refine (query_latent x0 x1 b s h k).trans (congrArg x0 (funext fun a => match a with
      | ⟨0, _⟩ => rfl
      | ⟨1, _⟩ => Fin.ext (row_div s h).symm
      | ⟨2, _⟩ => Fin.ext (congrArg (· * 512 + k.val) (row_mod s h).symm)))
  · exact (new_latent x7 x8 r1 b p k).trans (new_entry x7 r1 b p k)
  · refine (query_rope x0 x1 b s h k).trans (congrArg x1 (funext fun a => match a with
      | ⟨0, _⟩ => rfl
      | ⟨1, _⟩ => Fin.ext (row_div s h).symm
      | ⟨2, _⟩ => Fin.ext (row_mod s h).symm
      | ⟨3, _⟩ => rfl))
  · exact new_rope x7 x8 r1 b p k

/-- The mask of the cache: a token before the length. -/
theorem cache_mask (ha : Admissible (x5 (ix1 b))) (s : Fin 4) (h : Fin 128) (p : Fin 16384) :
    val_main_call0_v1 (F := Ideal) x5 (ix4 b s h p) = BitVec.ofBool (decide (p.val < (x5 (ix1 b) : BitVec 32).toNat)) := by
  rw [val_main_call0_v1_apply, val_main_v30_apply, val_main_v29_apply, val_main_v27_apply, val_main_v25_apply, val_main_v24_apply,
    val_main_v28_apply, val_main_v26_apply]
  have e : ∀ v : BitVec 32, Admissible v → IntOp.cmpi .slt (BitVec.ofNat 32 p.val) v = BitVec.ofBool (decide (p.val < v.toNat)) := by
    intro v hv
    have hv2 := hv.2
    have ev : BitVec.ofNat 32 v.toNat = v := by rw [BitVec.ofNat_toNat, BitVec.setWidth_eq]
    conv_lhs => rw [← ev]
    exact WordCmp.cmpi_slt_ofNat (by have := p.isLt; omega) (by omega)
  refine Eq.trans ?_ (e _ ha)
  exact congrArg (fun j => IntOp.cmpi .slt (BitVec.ofNat 32 p.val) (x5 j)) (funext fun a => match a with | ⟨0, _⟩ => rfl)

/-- The mask of the new tokens: a token at or before the query's position. -/
theorem new_mask (s : Fin 4) (h : Fin 128) (p : Fin 4) :
    val_main_call1_v1 (F := Ideal) (ix4 b s h p) = BitVec.ofBool (decide (p.val ≤ s.val)) := by
  rw [val_main_call1_v1_apply, val_main_v39_apply, val_main_v38_apply, val_main_v36_apply, val_main_v33_apply, val_main_v32_apply,
    val_main_v37_apply, val_main_v35_apply, val_main_v34_apply]
  exact WordCmp.cmpi_sle_ofNat (a := p.val) (b := s.val) (by have := p.isLt; omega) (by have := s.isLt; omega)

/-- A masked cache score. -/
theorem cache_score (ha : Admissible (x5 (ix1 b))) (s : Fin 4) (h : Fin 128) (p : Fin 16384) :
    val_main_v31 (F := Ideal) x0 x1 x3 x4 x5 r0 (ix4 b s h p) = (refBatch x0 x1 x3 x4 x5 x7 x8 r0 r1 b).score (row s h) (128 + p.val) * (σ : EReal) := by
  rw [val_main_v31_apply, cache_mask x5 b ha, WordCmp.select_decide, Batch.score_cache, val_main_v20_apply, cache_dot x0 x1 x3 x4 x5 x7 x8 r0 r1 b,
    val_main_v19_apply, val_main_v17_apply, val_main_cst_apply, val_main_call0_v2_apply, val_main_call0_v0_apply, val_main_cst_0_apply]
  refine (ite_congr rfl (fun _ => Consts.div_root _) (fun _ => (Consts.negInf.trans (EReal.bot_mul_coe_of_pos Consts.sqrt_pos).symm))).trans ?_
  exact (apply_ite (fun x : EReal => x * (σ : EReal)) _ _ _).symm

/-- A masked score of a new token. -/
theorem new_score (s : Fin 4) (h : Fin 128) (p : Fin 4) :
    val_main_v40 (F := Ideal) x0 x1 x7 x8 r1 (ix4 b s h p) = (refBatch x0 x1 x3 x4 x5 x7 x8 r0 r1 b).score (row s h) p.val * (σ : EReal) := by
  rw [val_main_v40_apply, new_mask, WordCmp.select_decide, Batch.score_four, row_div, val_main_v23_apply, new_dot x0 x1 x3 x4 x5 x7 x8 r0 r1 b,
    val_main_v22_apply, val_main_v17_apply, val_main_cst_apply, val_main_call1_v2_apply, val_main_call1_v0_apply, val_main_cst_1_apply]
  refine (ite_congr rfl (fun _ => Consts.div_root _) (fun _ => (Consts.negInf.trans (EReal.bot_mul_coe_of_pos Consts.sqrt_pos).symm))).trans ?_
  exact (apply_ite (fun x : EReal => x * (σ : EReal)) _ _ _).symm

end Cert.ReferenceIdeal.Read
end
-- ==== Proof.RefWeights.lean ====
/-
  The reference's largest score, and its exponentials as the weights of the batch.
-/
module
public import proofs.«01_k».proof.Proof.RefScores

@[expose] public section
set_option maxRecDepth 16384
noncomputable section
open Idealize.ShloMosaic Idealize.ShloMosaic.TcCoe Idealize.SL.Sem
open Cert.ReferenceIdeal Cert.ReferenceIdeal.Gen Cert.Attn Cert.Length Cert.Softmax
namespace Cert.ReferenceIdeal.Read
variable (x0 : (⟨S8x4x65536, .bf16⟩ : BufTy).Contents (Elt Ideal))
  (x1 : (⟨S8x4x128x64, .bf16⟩ : BufTy).Contents (Elt Ideal))
  (x3 : (⟨S8x16384x4, .f32⟩ : BufTy).Contents (Elt Ideal))
  (x4 : (⟨S8x16384x64, .bf16⟩ : BufTy).Contents (Elt Ideal))
  (x5 : (⟨S8, .i32⟩ : BufTy).Contents (Elt Ideal))
  (x7 : (⟨S8x4x4, .f32⟩ : BufTy).Contents (Elt Ideal))
  (x8 : (⟨S8x4x64, .bf16⟩ : BufTy).Contents (Elt Ideal))
  (r0 : (⟨S8x16384x512, .bf16⟩ : BufTy).Contents (Elt Ideal))
  (r1 : (⟨S8x4x512, .bf16⟩ : BufTy).Contents (Elt Ideal)) (b : Fin 8)

/-- The largest masked cache score. -/
theorem cache_max (ha : Admissible (x5 (ix1 b))) (s : Fin 4) (h : Fin 128) :
    val_main_v41 (F := Ideal) x0 x1 x3 x4 x5 r0 (ix3 b s h)
      = Finset.univ.sup fun p : Fin 16384 => (refBatch x0 x1 x3 x4 x5 x7 x8 r0 r1 b).score (row s h) (128 + p.val) * (σ : EReal) := by
  unfold val_main_v41
  rw [Host.reduce_eq_fold_single FloatOps.maximumf _ _ reducesTo_S8x4x128x16384_S8x4x128_d3 (by decide)]
  refine Eq.trans (Consts.fold_max _ _) (Finset.sup_congr rfl fun p _ => ?_)
  refine Eq.trans (congrArg (val_main_v31 (F := Ideal) x0 x1 x3 x4 x5 r0) (funext fun a => Fin.ext ?_)) (cache_score x0 x1 x3 x4 x5 x7 x8 r0 r1 b ha s h p)
  match a with
  | ⟨0, _⟩ => rfl
  | ⟨1, _⟩ => rfl
  | ⟨2, _⟩ => rfl
  | ⟨3, _⟩ => rfl

/-- The largest masked score of the new tokens. -/
theorem new_max (s : Fin 4) (h : Fin 128) :
    val_main_v43 (F := Ideal) x0 x1 x7 x8 r1 (ix3 b s h)
      = Finset.univ.sup fun p : Fin 4 => (refBatch x0 x1 x3 x4 x5 x7 x8 r0 r1 b).score (row s h) p.val * (σ : EReal) := by
  unfold val_main_v43
  rw [Host.reduce_eq_fold_single FloatOps.maximumf _ _ reducesTo_S8x4x128x4_S8x4x128_d3 (by decide)]
  refine Eq.trans (Consts.fold_max _ _) (Finset.sup_congr rfl fun p _ => ?_)
  refine Eq.trans (congrArg (val_main_v40 (F := Ideal) x0 x1 x7 x8 r1) (funext fun a => Fin.ext ?_)) (new_score x0 x1 x3 x4 x5 x7 x8 r0 r1 b s h p)
  match a with
  | ⟨0, _⟩ => rfl
  | ⟨1, _⟩ => rfl
  | ⟨2, _⟩ => rfl
  | ⟨3, _⟩ => rfl

/-- The largest score of a row. -/
theorem top_eq (ha : Admissible (x5 (ix1 b))) (s : Fin 4) (h : Fin 128) :
    val_main_v45 (F := Ideal) x0 x1 x3 x4 x5 x7 x8 r0 r1 (ix4 b s h (0 : Fin 1)) = (refBatch x0 x1 x3 x4 x5 x7 x8 r0 r1 b).top (row s h) * (σ : EReal) := by
  have e : idx_main_v42 (ix4 b s h (0 : Fin 1)) = ix3 b s h := funext fun a => match a with | ⟨0, _⟩ => rfl | ⟨1, _⟩ => rfl | ⟨2, _⟩ => rfl
  have e' : idx_main_v44 (ix4 b s h (0 : Fin 1)) = ix3 b s h := funext fun a => match a with | ⟨0, _⟩ => rfl | ⟨1, _⟩ => rfl | ⟨2, _⟩ => rfl
  rw [val_main_v45_apply, val_main_v42_apply, val_main_v44_apply, e, e', cache_max x0 x1 x3 x4 x5 x7 x8 r0 r1 b ha, new_max x0 x1 x3 x4 x5 x7 x8 r0 r1 b,
    sup_mul _ _ Consts.sqrt_pos, sup_mul _ _ Consts.sqrt_pos, Batch.top_split]
  exact (Monotone.map_max (f := fun x : EReal => x * (σ : EReal))
    (fun x y h => mul_le_mul_of_nonneg_right h (by exact_mod_cast Consts.sqrt_pos.le))).symm

/-- A cache token's exponential. -/
theorem cache_weight (ha : Admissible (x5 (ix1 b))) (s : Fin 4) (h : Fin 128) (p : Fin 16384) :
    val_main_v48 (F := Ideal) x0 x1 x3 x4 x5 x7 x8 r0 r1 (ix4 b s h p)
      = weight Consts.ρ ((refBatch x0 x1 x3 x4 x5 x7 x8 r0 r1 b).score (row s h) (128 + p.val)) ((refBatch x0 x1 x3 x4 x5 x7 x8 r0 r1 b).top (row s h)) := by
  have e : idx_main_v46 (ix4 b s h p) = ix4 b s h (0 : Fin 1) :=
    funext fun a => match a with | ⟨0, _⟩ => rfl | ⟨1, _⟩ => rfl | ⟨2, _⟩ => rfl | ⟨3, _⟩ => rfl
  rw [val_main_v48_apply, val_main_v47_apply, val_main_v46_apply, e, top_eq x0 x1 x3 x4 x5 x7 x8 r0 r1 b ha, cache_score x0 x1 x3 x4 x5 x7 x8 r0 r1 b ha]
  exact weight_exp Consts.sqrt_pos (Batch.score_le_top _ _ _ (by have := p.isLt; omega))

/-- A new token's exponential. -/
theorem new_weight (ha : Admissible (x5 (ix1 b))) (s : Fin 4) (h : Fin 128) (p : Fin 4) :
    val_main_v51 (F := Ideal) x0 x1 x3 x4 x5 x7 x8 r0 r1 (ix4 b s h p)
      = weight Consts.ρ ((refBatch x0 x1 x3 x4 x5 x7 x8 r0 r1 b).score (row s h) p.val) ((refBatch x0 x1 x3 x4 x5 x7 x8 r0 r1 b).top (row s h)) := by
  have e : idx_main_v49 (ix4 b s h p) = ix4 b s h (0 : Fin 1) :=
    funext fun a => match a with | ⟨0, _⟩ => rfl | ⟨1, _⟩ => rfl | ⟨2, _⟩ => rfl | ⟨3, _⟩ => rfl
  rw [val_main_v51_apply, val_main_v50_apply, val_main_v49_apply, e, top_eq x0 x1 x3 x4 x5 x7 x8 r0 r1 b ha, new_score x0 x1 x3 x4 x5 x7 x8 r0 r1 b]
  exact weight_exp Consts.sqrt_pos (Batch.score_le_top _ _ _ (by have := p.isLt; omega))

end Cert.ReferenceIdeal.Read
end
-- ==== Proof.RefValue.lean ====
/-
  The reference's result: every batch's output at every row and column.
-/
module
public import proofs.«01_k».proof.Proof.RefWeights

@[expose] public section
set_option maxRecDepth 16384
noncomputable section
open Idealize.ShloMosaic Idealize.ShloMosaic.TcCoe Idealize.SL.Sem
open Cert.ReferenceIdeal Cert.ReferenceIdeal.Gen Cert.Attn Cert.Length Cert.Softmax
namespace Cert.ReferenceIdeal.Read
variable (x0 : (⟨S8x4x65536, .bf16⟩ : BufTy).Contents (Elt Ideal))
  (x1 : (⟨S8x4x128x64, .bf16⟩ : BufTy).Contents (Elt Ideal))
  (x3 : (⟨S8x16384x4, .f32⟩ : BufTy).Contents (Elt Ideal))
  (x4 : (⟨S8x16384x64, .bf16⟩ : BufTy).Contents (Elt Ideal))
  (x5 : (⟨S8, .i32⟩ : BufTy).Contents (Elt Ideal))
  (x7 : (⟨S8x4x4, .f32⟩ : BufTy).Contents (Elt Ideal))
  (x8 : (⟨S8x4x64, .bf16⟩ : BufTy).Contents (Elt Ideal))
  (r0 : (⟨S8x16384x512, .bf16⟩ : BufTy).Contents (Elt Ideal))
  (r1 : (⟨S8x4x512, .bf16⟩ : BufTy).Contents (Elt Ideal)) (b : Fin 8)

/-- The total weight of a row. -/
theorem total_eq (ha : Admissible (x5 (ix1 b))) (s : Fin 4) (h : Fin 128) :
    val_main_v56 (F := Ideal) x0 x1 x3 x4 x5 x7 x8 r0 r1 (ix4 b s h (0 : Fin 1))
      = ∑ i ∈ Finset.range (128 + 16384), weight Consts.ρ ((refBatch x0 x1 x3 x4 x5 x7 x8 r0 r1 b).score (row s h) i) ((refBatch x0 x1 x3 x4 x5 x7 x8 r0 r1 b).top (row s h)) := by
  have e : ∀ k : Fin 16384, idx_main_v52 (idx_main_v53 (ix4 b s h (0 : Fin 1))) k = ix4 b s h k := fun k =>
    funext fun a => match a with | ⟨0, _⟩ => rfl | ⟨1, _⟩ => rfl | ⟨2, _⟩ => rfl | ⟨3, _⟩ => rfl
  have e' : ∀ k : Fin 4, idx_main_v54 (idx_main_v55 (ix4 b s h (0 : Fin 1))) k = ix4 b s h k := fun k =>
    funext fun a => match a with | ⟨0, _⟩ => rfl | ⟨1, _⟩ => rfl | ⟨2, _⟩ => rfl | ⟨3, _⟩ => rfl
  rw [val_main_v56_apply, val_main_v53_apply, val_main_v55_apply, val_main_v52_apply, val_main_v54_apply, val_main_cst_4_apply, val_main_cst_5_apply,
    sum_tokens _ fun i => by rw [Batch.score_pad, weight_bot Consts.ρ_pos]]
  simp only [e, e', cache_weight x0 x1 x3 x4 x5 x7 x8 r0 r1 b ha, new_weight x0 x1 x3 x4 x5 x7 x8 r0 r1 b ha]
  refine congrArg₂ (fun x y : EReal => x + y) ?_ ?_
  · exact (congrArg (· + _) Consts.zero).trans (zero_add _)
  · exact (congrArg (· + _) Consts.zero).trans (zero_add _)

/-- The weighted values of a row at a column. -/
theorem weighted_eq (ha : Admissible (x5 (ix1 b))) (s : Fin 4) (h : Fin 128) (d : Fin 512) :
    val_main_v61 (F := Ideal) x0 x1 x3 x4 x5 x7 x8 r0 r1 (ix4 b s h d)
      = ∑ i ∈ Finset.range (128 + 16384), weight Consts.ρ ((refBatch x0 x1 x3 x4 x5 x7 x8 r0 r1 b).score (row s h) i) ((refBatch x0 x1 x3 x4 x5 x7 x8 r0 r1 b).top (row s h))
          * (refBatch x0 x1 x3 x4 x5 x7 x8 r0 r1 b).value d i := by
  have el : ∀ k : Fin 16384, lidx_main_v58 (ix4 b s h d) k = ix4 b s h k := fun k =>
    funext fun a => match a with | ⟨0, _⟩ => rfl | ⟨1, _⟩ => rfl | ⟨2, _⟩ => rfl | ⟨3, _⟩ => rfl
  have er : ∀ k : Fin 16384, ridx_main_v58 (ix4 b s h d) k = ix3 b k d := fun k =>
    funext fun a => match a with | ⟨0, _⟩ => rfl | ⟨1, _⟩ => rfl | ⟨2, _⟩ => rfl
  have el' : ∀ k : Fin 4, lidx_main_v60 (ix4 b s h d) k = ix4 b s h k := fun k =>
    funext fun a => match a with | ⟨0, _⟩ => rfl | ⟨1, _⟩ => rfl | ⟨2, _⟩ => rfl | ⟨3, _⟩ => rfl
  have er' : ∀ k : Fin 4, ridx_main_v60 (ix4 b s h d) k = ix3 b k d := fun k =>
    funext fun a => match a with | ⟨0, _⟩ => rfl | ⟨1, _⟩ => rfl | ⟨2, _⟩ => rfl
  rw [val_main_v61_apply, val_main_v58_apply, val_main_v60_apply,
    sum_tokens _ fun i => by rw [Batch.score_pad, weight_bot Consts.ρ_pos, zero_mul]]
  simp only [el, er, el', er', val_main_v57_apply, val_main_v59_apply, cache_weight x0 x1 x3 x4 x5 x7 x8 r0 r1 b ha, new_weight x0 x1 x3 x4 x5 x7 x8 r0 r1 b ha, cache_entry, new_entry,
    Batch.value_cache, Batch.value_four]
  rfl

/-- The reference's result at a row and a column. -/
theorem out_eq (ha : Admissible (x5 (ix1 b))) (r d : Fin 512) :
    val_main_v65 (F := Ideal) x0 x1 x3 x4 x5 x7 x8 r0 r1 (ix3 b r d) = (refBatch x0 x1 x3 x4 x5 x7 x8 r0 r1 b).out r d := by
  have hr : row (⟨r.val / 128, by omega⟩ : Fin 4) (⟨r.val % 128, by omega⟩ : Fin 128) = r :=
    Fin.ext (by show r.val / 128 * 128 + r.val % 128 = r.val; omega)
  have e : idx_main_v65 (ix3 b r d) = ix4 b (⟨r.val / 128, by omega⟩ : Fin 4) (⟨r.val % 128, by omega⟩ : Fin 128) d :=
    funext fun a => match a with
      | ⟨0, _⟩ => Fin.ext (by show ((b.val * 512 + r.val) * 512 + d.val) / 262144 = b.val; omega)
      | ⟨1, _⟩ => Fin.ext (by show ((b.val * 512 + r.val) * 512 + d.val) / 65536 % 4 = r.val / 128; omega)
      | ⟨2, _⟩ => Fin.ext (by show ((b.val * 512 + r.val) * 512 + d.val) / 512 % 128 = r.val % 128; omega)
      | ⟨3, _⟩ => Fin.ext (by show ((b.val * 512 + r.val) * 512 + d.val) % 512 = d.val; omega)
  have e' : ∀ (s : Fin 4) (h : Fin 128), idx_main_v62 (ix4 b s h d) = ix4 b s h (0 : Fin 1) := fun s h =>
    funext fun a => match a with | ⟨0, _⟩ => rfl | ⟨1, _⟩ => rfl | ⟨2, _⟩ => rfl | ⟨3, _⟩ => rfl
  rw [val_main_v65_apply, e, val_main_v64_apply, val_main_v63_apply, val_main_v62_apply, e', weighted_eq x0 x1 x3 x4 x5 x7 x8 r0 r1 b ha, total_eq x0 x1 x3 x4 x5 x7 x8 r0 r1 b ha, hr]
  rfl

end Cert.ReferenceIdeal.Read
end
-- ==== Proof.RefDecode.lean ====
/-
  The reference's decoding region leaves the codes themselves: over the extended reals a cast changes nothing.
-/
module
public import proofs.«01_k».proof.Proof.Gen.ReferenceIdeal.Run
public import proofs.«01_k».proof.Proof.Gen.ReferenceIdeal.Points
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.ReferenceIdeal.Value
open Cert.ReferenceIdeal Cert.ReferenceIdeal.Gen
variable (m : (ℓ : Loc nD τ sig) → Buf (Elt Ideal) ℓ) (c : Dev nD)

/-- The decoded cache codes. -/
theorem decoded_cache : reg_main_v0_0 m c = (fun i => m ((c.tc : Thread nD τ).loc main_arg2) i) := by
  unfold reg_main_v0_0
  refine (Gen.dats m 0 c).arrAt_eq_of_covers 2 _ (by decide +kernel) fun t _ y => ?_
  rw [Gen.after0_2]
  unfold Gen.out0_2
  rw [View.canon_unit_zero (by decide), View.ld_unit_zero (by decide)]
  blk_simp
  exact congrArg (m ((c.tc : Thread nD τ).loc main_arg2)) (funext fun a => Fin.ext rfl)

/-- The decoded codes of the new tokens. -/
theorem decoded_new : reg_main_v0_1 m c = (fun i => m ((c.tc : Thread nD τ).loc main_arg6) i) := by
  unfold reg_main_v0_1
  refine (Gen.dats m 0 c).arrAt_eq_of_covers 3 _ (by decide +kernel) fun t _ y => ?_
  rw [Gen.after0_3]
  unfold Gen.out0_3
  rw [View.canon_unit_zero (by decide), View.ld_unit_zero (by decide)]
  blk_simp
  exact congrArg (m ((c.tc : Thread nD τ).loc main_arg6)) (funext fun a => Fin.ext rfl)

end Cert.ReferenceIdeal.Value
end
-- ==== Proof.RefResult.lean ====
/-
  The reference's result array at the end of its run, in terms of the batches its arguments hold.
-/
module
public import proofs.«01_k».proof.Proof.RefValue
public import proofs.«01_k».proof.Proof.RefDecode

@[expose] public section
set_option maxRecDepth 16384
noncomputable section
open Idealize.ShloMosaic Idealize.ShloMosaic.TcCoe Idealize.SL.Sem
open Cert.ReferenceIdeal Cert.ReferenceIdeal.Gen Cert.Attn Cert.Length
namespace Cert.ReferenceIdeal.Value
variable (m : (ℓ : Loc nD τ sig) → Buf (Elt Ideal) ℓ) (c : Dev nD)

/-- The result the reference's mathematics gives at a launch memory: every batch's attention output. -/
def result : Buf (Elt Ideal) ((c.tc : Thread nD τ).loc main_v65) := fun i =>
  (batchOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (i 0)).out (i 1) (i 2)

/-- The result term over the contents the decoding region leaves is every batch's attention output. -/
theorem exit_result (hA : ∀ b : Fin 8, Admissible (m ((c.tc : Thread nD τ).loc main_arg5) (ix1 b))) :
    Read.val_main_v65 (F := Ideal) (exitV m c (Proc.devRef .tc main_arg0)) (exitV m c (Proc.devRef .tc main_arg1))
      (exitV m c (Proc.devRef .tc main_arg3)) (exitV m c (Proc.devRef .tc main_arg4)) (exitV m c (Proc.devRef .tc main_arg5))
      (exitV m c (Proc.devRef .tc main_arg7)) (exitV m c (Proc.devRef .tc main_arg8)) (exitV m c (Proc.devRef .tc main_v0_0))
      (exitV m c (Proc.devRef .tc main_v0_1)) = result m c := by
  rw [exit_main_arg0, exit_main_arg1, exit_main_arg3, exit_main_arg4, exit_main_arg5, exit_main_arg7, exit_main_arg8,
    exit_main_v0_0, exit_main_v0_1, decoded_cache, decoded_new]
  funext (i : S8x512x512.Idx)
  have hi : i = ix3 (i 0) (i 1) (i 2) := by
    funext a
    match a with
    | 0 => rfl
    | 1 => rfl
    | 2 => rfl
  have := Read.out_eq (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg7)) (m ((c.tc : Thread nD τ).loc main_arg8))
    (fun i => m ((c.tc : Thread nD τ).loc main_arg2) i) (fun i => m ((c.tc : Thread nD τ).loc main_arg6) i) (i 0) (hA (i 0)) (i 1) (i 2)
  exact (congrArg _ hi).trans this

end Cert.ReferenceIdeal.Value

end
-- ==== Proof.lean ====
/-
  The proof of `Cert.Claim`: the kernel, its idealization and the reference run and leave their arguments unchanged, the idealization
  changes the two constants it names and nothing else, and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_admissible
public import proofs.«01_k».proof.Proof.Gen.ReferenceIdeal.Run
public import proofs.«01_k».proof.Proof.Gen.ReferenceIdeal.Read
public import proofs.«01_k».proof.Proof.KernelOk
public import proofs.«01_k».proof.Proof.KernelIdealOk
public import proofs.«01_k».proof.Proof.KernelValue
public import proofs.«01_k».proof.Proof.RefResult
public import Idealize.ShloMosaic.Adequacy
public import Idealize.ShloMosaic.Init

@[expose] public section

noncomputable section

namespace Cert.Proof

open Idealize.ShloMosaic Idealize.ShloMosaic.TcCoe Idealize.SL.Sem Cert.Length

/-- The precondition of the kernel gives the pipeline's side condition. -/
theorem kernel_ok (m : (ℓ : Loc Cert.Kernel.nD Cert.Kernel.τ Cert.Kernel.sig) → Buf (Elt Bits) ℓ)
    (h : Cert.Pre_Kernel (hPre_admissible := Cert.Pre_admissible.Gen.facts) m) : Cert.Kernel.Gen.Ok m :=
  Cert.Kernel.ok m fun c j => admissible_of_pre _ _ _ _ _ _ _ _ _ (h c) j

/-- The precondition of the idealized kernel gives the pipeline's side condition. -/
theorem kernelIdeal_ok (m : (ℓ : Loc Cert.KernelIdeal.nD Cert.KernelIdeal.τ Cert.KernelIdeal.sig) → Buf (Elt Ideal) ℓ)
    (h : Cert.Pre_KernelIdeal (hPre_admissible := Cert.Pre_admissible.Gen.facts) m) : Cert.KernelIdeal.Gen.Ok m :=
  Cert.KernelIdeal.ok m fun c j => admissible_of_pre _ _ _ _ _ _ _ _ _ (h c) j

/-- Every named constant is the constant it replaces. -/
theorem preserves : Cert.preserves_Kernel_KernelIdeal :=
  ⟨IdealRules.named_const.statement Cert.KernelIdeal.κ "mask" .f32 0xF149F2CA#32 ⊥ rfl,
    IdealRules.named_const.statement Cert.KernelIdeal.κ "exp2_scale" .f32 0x3DD53B95#32 _ rfl⟩

/-- Over the extended reals the kernel leaves in its result array what the reference leaves in its own. -/
theorem algebraic : Cert.algebraic_KernelIdeal_ReferenceIdeal (hKernelIdeal := Cert.KernelIdeal.Gen.facts)
    (hReferenceIdeal := Cert.ReferenceIdeal.Gen.facts) (hPre_admissible := Cert.Pre_admissible.Gen.facts) := by
  intro m g m' g' hpre hag
  have hA : ∀ (c : Dev Cert.KernelIdeal.nD) (b : Fin 8),
      Admissible (m ((c.tc : Thread Cert.KernelIdeal.nD Cert.KernelIdeal.τ).loc Cert.KernelIdeal.main_arg5) (ix1 b)) :=
    fun c b => admissible_of_pre _ _ _ _ _ _ _ _ _ (hpre c) (ix1 b)
  have hO := kernelIdeal_ok m hpre
  refine ⟨fun c => Cert.KernelIdeal.Value.result m c, ?_, ?_⟩
  · refine (θ_run Cert.KernelIdeal.defs _ _).mono (fun r h c => ?_)
      (θ_run_and (Cert.KernelIdeal.Gen.run_main m g hO) (Cert.KernelIdeal.Gen.unchanged m g hO))
    exact ⟨((h.1 c).1 8).trans (Cert.KernelIdeal.Value.final m hO c (hA c)), h.2 c⟩
  · refine (θ_run Cert.ReferenceIdeal.defs _ _).mono (fun r h c => ?_) (Cert.ReferenceIdeal.Value.run m' g')
    obtain ⟨e0, e1, e2, e3, e4, e5, e6, e7, e8⟩ := hag c
    refine ⟨(h c).1.trans ?_, (h c).2⟩
    refine (Cert.ReferenceIdeal.Read.val_main_v65_eq (Cert.ReferenceIdeal.Value.exitV m' c)).trans ?_
    refine (Cert.ReferenceIdeal.Value.exit_result m' c fun b => ?_).trans ?_
    · rw [e5]
      exact hA c b
    · unfold Cert.ReferenceIdeal.Value.result
      rw [e0, e1, e2, e3, e4, e5, e6, e7, e8]
      rfl

theorem claim : Cert.Claim := ⟨Cert.Kernel.Gen.facts, Cert.KernelIdeal.Gen.facts, Cert.ReferenceIdeal.Gen.facts, Cert.Pre_admissible.Gen.facts,
  fun m ρ h => Cert.Kernel.Gen.frame m ρ (kernel_ok m h),
  fun m ρ h => Cert.KernelIdeal.Gen.frame m ρ (kernelIdeal_ok m h),
  fun m ρ _ => Cert.ReferenceIdeal.Gen.frame m ρ,
  fun m ρ _ => Cert.ReferenceIdeal.Gen.frame m ρ,
  preserves,
  algebraic⟩

end Cert.Proof

end
